-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v69) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S512x512 : Shape := ⟨2, ![512, 512]⟩
abbrev S2048x512 : Shape := ⟨2, ![2048, 512]⟩
abbrev S4x8 : Shape := ⟨2, ![4, 8]⟩
abbrev S6 : Shape := ⟨1, ![6]⟩
abbrev S3 : Shape := ⟨1, ![3]⟩
abbrev S_ : Shape := ⟨0, ![]⟩
abbrev S512x8 : Shape := ⟨2, ![512, 8]⟩
abbrev S8 : Shape := ⟨1, ![8]⟩
abbrev S1x8 : Shape := ⟨2, ![1, 8]⟩
abbrev S1 : Shape := ⟨1, ![1]⟩
abbrev S256x512 : Shape := ⟨2, ![256, 512]⟩
abbrev S1x256x512 : Shape := ⟨3, ![1, 256, 512]⟩
abbrev S512 : Shape := ⟨1, ![512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S512x512, .f32⟩
  | .local _ .vmem, ⟨4, _⟩ => ⟨S2048x512, .bf16⟩
  | .local _ .vmem, ⟨5, _⟩ => ⟨S4x8, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : Index := Scalar.indexCast v2
  let c0_12 : Index := 0#32
  ![v24.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_22 : BitVec 32 := 0#32
  ![v2.toNat, 0]
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_20 : BitVec 32 := 1#32
  let v33 : BitVec 32 := Scalar.muli v7 c1_i32_20
  let v34 : BitVec 32 := Scalar.addi c0_i32_21 v33
  v34.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_26 : BitVec 32 := 1#32
  let v41 : BitVec 32 := Scalar.muli v5 c1_i32_26
  let v42 : BitVec 32 := Scalar.addi c0_i32_27 v41
  v42.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_14 : BitVec 32 := 2#32
  let v28 : BitVec 32 := Scalar.muli v2 c2_i32_14
  let c256_i32 : BitVec 32 := 256#32
  let v29 : BitVec 32 := Scalar.muli v28 c256_i32
  let c0_i32_35 : BitVec 32 := 0#32
  ![v29.toNat, 0]
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_33 : BitVec 32 := 1#32
  let v49 : BitVec 32 := Scalar.muli v7 c1_i32_33
  let v50 : BitVec 32 := Scalar.addi c0_i32_34 v49
  v50.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_15 : BitVec 32 := 2#32
  let v30 : BitVec 32 := Scalar.muli v2 c2_i32_15
  let c1_i32_16 : BitVec 32 := 1#32
  let v31 : BitVec 32 := Scalar.addi v30 c1_i32_16
  let c256_i32_17 : BitVec 32 := 256#32
  let v32 : BitVec 32 := Scalar.muli v31 c256_i32_17
  let c0_i32_43 : BitVec 32 := 0#32
  ![v32.toNat, 0]
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_41 : BitVec 32 := 1#32
  let v58 : BitVec 32 := Scalar.muli v5 c1_i32_41
  let v59 : BitVec 32 := Scalar.addi c0_i32_42 v58
  v59.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_57 : BitVec 32 := 0#32
  ![v5.toNat, 0]
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_55 : BitVec 32 := 1#32
  let v81 : BitVec 32 := Scalar.muli v7 c1_i32_55
  let v82 : BitVec 32 := Scalar.addi c0_i32_56 v81
  v82.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_67 : BitVec 32 := 1#32
  let v94 : BitVec 32 := Scalar.muli v7 c1_i32_67
  let v95 : BitVec 32 := Scalar.addi c0_i32_68 v94
  v95.toNat
def k0_dev9 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_74 : BitVec 32 := 1#32
  let v103 : BitVec 32 := Scalar.muli v5 c1_i32_74
  let v104 : BitVec 32 := Scalar.addi c0_i32_75 v103
  v104.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2_i32_99 : BitVec 32 := 2#32
  let v144 : BitVec 32 := Scalar.muli v5 c2_i32_99
  let c256_i32_100 : BitVec 32 := 256#32
  let v145 : BitVec 32 := Scalar.muli v144 c256_i32_100
  let c0_i32_119 : BitVec 32 := 0#32
  ![v145.toNat, 0]
def k0_dev10 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_117 : BitVec 32 := 1#32
  let v159 : BitVec 32 := Scalar.muli v7 c1_i32_117
  let v160 : BitVec 32 := Scalar.addi c0_i32_118 v159
  v160.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c2_i32_104 : BitVec 32 := 2#32
  let v149 : BitVec 32 := Scalar.muli v7 c2_i32_104
  let c1_i32_105 : BitVec 32 := 1#32
  let v150 : BitVec 32 := Scalar.addi v149 c1_i32_105
  let c256_i32_106 : BitVec 32 := 256#32
  let v151 : BitVec 32 := Scalar.muli v150 c256_i32_106
  let c0_i32_132 : BitVec 32 := 0#32
  ![v151.toNat, 0]
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_130 : BitVec 32 := 1#32
  let v174 : BitVec 32 := Scalar.muli v5 c1_i32_130
  let v175 : BitVec 32 := Scalar.addi c0_i32_131 v174
  v175.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2_i32_147 : BitVec 32 := 2#32
  let v214 : BitVec 32 := Scalar.muli v5 c2_i32_147
  let c256_i32_148 : BitVec 32 := 256#32
  let v215 : BitVec 32 := Scalar.muli v214 c256_i32_148
  let v216 : Index := Scalar.indexCast v215
  let c0_149 : Index := 0#32
  ![v216.toNat, 0]
def k0_off9 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c2_i32_152 : BitVec 32 := 2#32
  let v230 : BitVec 32 := Scalar.muli v7 c2_i32_152
  let c1_i32_153 : BitVec 32 := 1#32
  let v231 : BitVec 32 := Scalar.addi v230 c1_i32_153
  let c256_i32_154 : BitVec 32 := 256#32
  let v232 : BitVec 32 := Scalar.muli v231 c256_i32_154
  let v233 : Index := Scalar.indexCast v232
  let c0_155 : Index := 0#32
  ![v233.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c2_i32_166 : BitVec 32 := 2#32
  let v254 : BitVec 32 := Scalar.muli v5 c2_i32_166
  let c1_i32_167 : BitVec 32 := 1#32
  let v255 : BitVec 32 := Scalar.addi v254 c1_i32_167
  let c256_i32_168 : BitVec 32 := 256#32
  let v256 : BitVec 32 := Scalar.muli v255 c256_i32_168
  let v257 : Index := Scalar.indexCast v256
  let c0_169 : Index := 0#32
  ![v257.toNat, 0]
def k0_off11 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c2_i32_180 : BitVec 32 := 2#32
  let v278 : BitVec 32 := Scalar.muli v7 c2_i32_180
  let c256_i32_181 : BitVec 32 := 256#32
  let v279 : BitVec 32 := Scalar.muli v278 c256_i32_181
  let v280 : Index := Scalar.indexCast v279
  let c0_182 : Index := 0#32
  ![v280.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x256 : Shape := ⟨2, ![2048, 256]⟩
abbrev S256x8 : Shape := ⟨2, ![256, 8]⟩
abbrev S2048x1 : Shape := ⟨2, ![2048, 1]⟩
abbrev S8x256x512 : Shape := ⟨3, ![8, 256, 512]⟩
abbrev S8 : Shape := ⟨1, ![8]⟩
abbrev S1x8 : Shape := ⟨2, ![1, 8]⟩
abbrev S2048x8 : Shape := ⟨2, ![2048, 8]⟩
abbrev S_ : Shape := ⟨0, ![]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 87
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x8, .bf16⟩
  | .hbm, ⟨2, _⟩ => ⟨S2048x1, .i32⟩
  | .hbm, ⟨3, _⟩ => ⟨S8x256x512, .bf16⟩
  | .hbm, ⟨4, _⟩ => ⟨S8, .i32⟩
  | .hbm, ⟨5, _⟩ => ⟨S1x8, .i32⟩
  | .hbm, ⟨6, _⟩ => ⟨S2048x8, .i32⟩
  | .hbm, ⟨7, _⟩ => ⟨S2048x8, .i32⟩
  | .hbm, ⟨8, _⟩ => ⟨S2048x8, .i1⟩
  | .hbm, ⟨9, _⟩ => ⟨S2048x8, .i32⟩
  | .hbm, ⟨10, _⟩ => ⟨S_, .i32⟩
  | .hbm, ⟨11, _⟩ => ⟨S_, .i32⟩
  | .hbm, ⟨12, _⟩ => ⟨S2048x8, .i32⟩
  | .hbm, ⟨13, _⟩ => ⟨S2048x8, .i32⟩
  | .hbm, ⟨14, _⟩ => ⟨S_, .i32⟩
  | .hbm, ⟨15, _⟩ => ⟨S2048x8, .i32⟩
  | .hbm, ⟨16, _⟩ => ⟨S2048x8, .i1⟩
  | .hbm, ⟨17, _⟩ => ⟨S_, .i32⟩
  | .hbm, ⟨18, _⟩ => ⟨S2048x8, .i32⟩
  | .hbm, ⟨19, _⟩ => ⟨S2048x8, .i1⟩
  | .hbm, ⟨20, _⟩ => ⟨S2048x8, .i1⟩
  | .hbm, ⟨21, _⟩ => ⟨S_, .f32⟩
  | .hbm, ⟨22, _⟩ => ⟨S2048x512, .f32⟩
  | .hbm, ⟨23, _⟩ => ⟨S2048x256, .f32⟩
  | .hbm, ⟨24, _⟩ => ⟨S1x256x512, .bf16⟩
  | .hbm, ⟨25, _⟩ => ⟨S256x512, .bf16⟩
  | .hbm, ⟨26, _⟩ => ⟨S256x512, .f32⟩
  | .hbm, ⟨27, _⟩ => ⟨S2048x512, .f32⟩
  | .hbm, ⟨28, _⟩ => ⟨S2048x1, .i1⟩
  | .hbm, ⟨29, _⟩ => ⟨S2048x512, .i1⟩
  | .hbm, ⟨30, _⟩ => ⟨S2048x512, .f32⟩
  | .hbm, ⟨31, _⟩ => ⟨S2048x256, .f32⟩
  | .hbm, ⟨32, _⟩ => ⟨S1x256x512, .bf16⟩
  | .hbm, ⟨33, _⟩ => ⟨S256x512, .bf16⟩
  | .hbm, ⟨34, _⟩ => ⟨S256x512, .f32⟩
  | .hbm, ⟨35, _⟩ => ⟨S2048x512, .f32⟩
  | .hbm, ⟨36, _⟩ => ⟨S2048x1, .i1⟩
  | .hbm, ⟨37, _⟩ => ⟨S2048x512, .i1⟩
  | .hbm, ⟨38, _⟩ => ⟨S2048x512, .f32⟩
  | .hbm, ⟨39, _⟩ => ⟨S2048x256, .f32⟩
  | .hbm, ⟨40, _⟩ => ⟨S1x256x512, .bf16⟩
  | .hbm, ⟨41, _⟩ => ⟨S256x512, .bf16⟩
  | .hbm, ⟨42, _⟩ => ⟨S256x512, .f32⟩
  | .hbm, ⟨43, _⟩ => ⟨S2048x512, .f32⟩
  | .hbm, ⟨44, _⟩ => ⟨S2048x1, .i1⟩
  | .hbm, ⟨45, _⟩ => ⟨S2048x512, .i1⟩
  | .hbm, ⟨46, _⟩ => ⟨S2048x512, .f32⟩
  | .hbm, ⟨47, _⟩ => ⟨S2048x256, .f32⟩
  | .hbm, ⟨48, _⟩ => ⟨S1x256x512, .bf16⟩
  | .hbm, ⟨49, _⟩ => ⟨S256x512, .bf16⟩
  | .hbm, ⟨50, _⟩ => ⟨S256x512, .f32⟩
  | .hbm, ⟨51, _⟩ => ⟨S2048x512, .f32⟩
  | .hbm, ⟨52, _⟩ => ⟨S2048x1, .i1⟩
  | .hbm, ⟨53, _⟩ => ⟨S2048x512, .i1⟩
  | .hbm, ⟨54, _⟩ => ⟨S2048x512, .f32⟩
  | .hbm, ⟨55, _⟩ => ⟨S2048x256, .f32⟩
  | .hbm, ⟨56, _⟩ => ⟨S1x256x512, .bf16⟩
  | .hbm, ⟨57, _⟩ => ⟨S256x512, .bf16⟩
  | .hbm, ⟨58, _⟩ => ⟨S256x512, .f32⟩
  | .hbm, ⟨59, _⟩ => ⟨S2048x512, .f32⟩
  | .hbm, ⟨60, _⟩ => ⟨S2048x1, .i1⟩
  | .hbm, ⟨61, _⟩ => ⟨S2048x512, .i1⟩
  | .hbm, ⟨62, _⟩ => ⟨S2048x512, .f32⟩
  | .hbm, ⟨63, _⟩ => ⟨S2048x256, .f32⟩
  | .hbm, ⟨64, _⟩ => ⟨S1x256x512, .bf16⟩
  | .hbm, ⟨65, _⟩ => ⟨S256x512, .bf16⟩
  | .hbm, ⟨66, _⟩ => ⟨S256x512, .f32⟩
  | .hbm, ⟨67, _⟩ => ⟨S2048x512, .f32⟩
  | .hbm, ⟨68, _⟩ => ⟨S2048x1, .i1⟩
  | .hbm, ⟨69, _⟩ => ⟨S2048x512, .i1⟩
  | .hbm, ⟨70, _⟩ => ⟨S2048x512, .f32⟩
  | .hbm, ⟨71, _⟩ => ⟨S2048x256, .f32⟩
  | .hbm, ⟨72, _⟩ => ⟨S1x256x512, .bf16⟩
  | .hbm, ⟨73, _⟩ => ⟨S256x512, .bf16⟩
  | .hbm, ⟨74, _⟩ => ⟨S256x512, .f32⟩
  | .hbm, ⟨75, _⟩ => ⟨S2048x512, .f32⟩
  | .hbm, ⟨76, _⟩ => ⟨S2048x1, .i1⟩
  | .hbm, ⟨77, _⟩ => ⟨S2048x512, .i1⟩
  | .hbm, ⟨78, _⟩ => ⟨S2048x512, .f32⟩
  | .hbm, ⟨79, _⟩ => ⟨S2048x256, .f32⟩
  | .hbm, ⟨80, _⟩ => ⟨S1x256x512, .bf16⟩
  | .hbm, ⟨81, _⟩ => ⟨S256x512, .bf16⟩
  | .hbm, ⟨82, _⟩ => ⟨S256x512, .f32⟩
  | .hbm, ⟨83, _⟩ => ⟨S2048x512, .f32⟩
  | .hbm, ⟨84, _⟩ => ⟨S2048x1, .i1⟩
  | .hbm, ⟨85, _⟩ => ⟨S2048x512, .i1⟩
  | .hbm, ⟨86, _⟩ => ⟨S2048x512, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call2_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call3_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call4_v0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call5_v0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call6_v0 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call7_v0 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_call8_v0 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Proof.Protocol.lean ====
/-
The exchange of the mixture-of-experts kernel, written down once: which copies the four devices make, which
semaphore each raises, what each landing hands over, and in which order the units are owed.

Write `l`, `r`, `g` for the device before, after and opposite `c` on the ring of four.  Every device makes nine
copies, numbered here 0 … 8:

  0  its own histogram row to `r`          1  its own histogram row to `l`
  2  `l`'s histogram row on to `r`
  3  its first expert to `r`               4  its second expert to `r`
  5  its second expert to `l`              6  its first expert to `l`
  7  `l`'s first expert on to `r`          8  `r`'s second expert on to `l`

Copy `t` raises one send semaphore of the sender and one receive semaphore of the target.  At entry each device
signals the barrier semaphore of both neighbours: the signal to `l` hands over the landing rows of the copies that
move right, the signal to `r` those of the copies that move left.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Moe

open Cert.KernelIdeal Cert.KernelIdeal.Gen
open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost algebra: the pipeline's own copy beside the exchange's -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The ring of four -/

/-- The device before `c`. -/
def lft (c : Dev nD) : Dev nD := ⟨(c.val + 3) % 4, Nat.mod_lt _ (by decide)⟩
/-- The device after `c`. -/
def rgt (c : Dev nD) : Dev nD := ⟨(c.val + 1) % 4, Nat.mod_lt _ (by decide)⟩
/-- The device opposite `c`. -/
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem lft_lft (c : Dev nD) : lft (lft c) = opp c := by revert c; decide
theorem rgt_rgt (c : Dev nD) : rgt (rgt c) = opp c := by revert c; decide
theorem opp_rgt (c : Dev nD) : opp (rgt c) = lft c := by revert c; decide
theorem opp_lft (c : Dev nD) : opp (lft c) = rgt c := by revert c; decide

/-- Whether copy `t` moves right. -/
def goesR (t : Fin 9) : Bool := (![true, false, true, true, true, false, false, true, false] : Fin 9 → Bool) t
/-- The target of copy `t` of device `c`. -/
def dst (t : Fin 9) (c : Dev nD) : Dev nD := if goesR t then rgt c else lft c
/-- The device whose copy `t` lands on `d`. -/
def frm (t : Fin 9) (d : Dev nD) : Dev nD := if goesR t then lft d else rgt d

theorem dst_frm (t : Fin 9) (d : Dev nD) : dst t (frm t d) = d := by unfold dst frm; split <;> simp only [rgt_lft, lft_rgt]
theorem frm_dst (t : Fin 9) (c : Dev nD) : frm t (dst t c) = c := by unfold dst frm; split <;> simp only [rgt_lft, lft_rgt]

/-! ## Semaphores and cells -/

/-- The runtime's barrier semaphore. -/
abbrev barS : Sem sig := (SemArray.scalar (sig.barrier 0 rfl) : Sems sig S_).sem

/-- Copy `t`'s send semaphore. -/
def sendS (t : Fin 9) : DmaSem sig := (![16, 17, 18, 4, 5, 6, 7, 8, 9] : Fin 9 → DmaSem sig) t
/-- Copy `t`'s receive semaphore. -/
def recvS (t : Fin 9) : DmaSem sig := (![19, 20, 21, 10, 11, 12, 13, 14, 15] : Fin 9 → DmaSem sig) t

/-- What a DMA semaphore is for: a copy's sending end (`true`) or its receiving end (`false`). -/
def role (j : DmaSem sig) : Option (Bool × Fin 9) :=
  (![none, none, none, none,
     some (true, 3), some (true, 4), some (true, 5), some (true, 6), some (true, 7), some (true, 8),
     some (false, 3), some (false, 4), some (false, 5), some (false, 6), some (false, 7), some (false, 8),
     some (true, 0), some (true, 1), some (true, 2), some (false, 0), some (false, 1), some (false, 2)] : Fin 22 → Option (Bool × Fin 9)) j

theorem role_sendS (t : Fin 9) : role (sendS t) = some (true, t) := by revert t; decide
theorem role_recvS (t : Fin 9) : role (recvS t) = some (false, t) := by revert t; decide

abbrev barCell (c : Dev nD) : GSem nD τ sig := ((c : Thread nD τ), .reg barS)
abbrev sendCell (t : Fin 9) (c : Dev nD) : GSem nD τ sig := ((c : Thread nD τ), .dma (sendS t))
abbrev recvCell (t : Fin 9) (c : Dev nD) : GSem nD τ sig := ((c : Thread nD τ), .dma (recvS t))

/-- A device's own eighteen DMA semaphores, by role. -/
abbrev osem : Bool × Fin 9 → SemLoc sig := fun x => .dma (cond x.1 (sendS x.2) (recvS x.2))
/-- All nineteen semaphores of the exchange. -/
abbrev csem : Unit ⊕ (Bool × Fin 9) → SemLoc sig := Sum.elim (fun _ => .reg barS) osem
abbrev CIx : Type := Dev nD × (Unit ⊕ (Bool × Fin 9))
abbrev kcell (x : CIx) : GSem nD τ sig := ((x.1 : Thread nD τ), csem x.2)

/-! ## Memory: the two gathered tables, row block by row block -/

abbrev xM : Memref sig .tc .vmem S512x256 .bf16 := Memref.whole cc0_stg0_0
abbrev rM : Memref sig .tc .vmem S512x1 .i32 := Memref.whole cc0_stg1_0
abbrev eM : Memref sig .tc .vmem S2x256x512 .bf16 := Memref.whole cc0_stg2_0
abbrev oM : Memref sig .tc .vmem S512x512 .f32 := Memref.whole cc0_stg3_0
abbrev wM : Memref sig .tc .vmem S2048x512 .bf16 := Memref.whole cc0_scratch0
abbrev hM : Memref sig .tc .vmem S4x8 .f32 := Memref.whole cc0_scratch1

/-- The rows of the expert table that hold expert `e`. -/
def wRows (e : Fin 8) : Finset S2048x512.Idx := Finset.univ.filter fun i => (i 0).val / 256 = e.val
/-- The row of the histogram table that belongs to device `d`. -/
def hRows (d : Dev nD) : Finset S4x8.Idx := Finset.univ.filter fun i => (i 0).val = d.val
/-- One of the two experts in a device's own block of weights. -/
def eSlab (b : Fin 2) : Finset S2x256x512.Idx := Finset.univ.filter fun i => (i 0).val = b.val

/-- Expert `b` of device `d`, numbered among all eight. -/
def ex (d : Dev nD) (b : Fin 2) : Fin 8 := ⟨2 * d.val + b.val, by have := d.isLt; have := b.isLt; simp only [nD] at *; omega⟩

/-- What a device's four windows hold when the body starts: its blocks of the arguments. -/
def xstg (c : Dev nD) : (cc0_stg0_0 : Ref sig .tc).ty.Contents (Elt F) :=
  (win0_0.blk (0 : Fin 1)).view.read (Elt F) (m ((c : Thread nD τ).loc main_arg0))
def rstg (c : Dev nD) : (cc0_stg1_0 : Ref sig .tc).ty.Contents (Elt F) :=
  (win0_1.blk (0 : Fin 1)).view.read (Elt F) (m ((c : Thread nD τ).loc main_arg2))
def estg (c : Dev nD) : (cc0_stg2_0 : Ref sig .tc).ty.Contents (Elt F) :=
  (win0_2.blk (0 : Fin 1)).view.read (Elt F) (m ((c : Thread nD τ).loc main_arg3))

/-- The whole histogram table: row `d` is device `d`'s histogram. -/
def histAll : Vec F S4x8 .f32 := fun i => k0_pay2 (rstg m (i 0)) (ix2 (0 : Fin 1) (i 1))
/-- The whole expert table: rows `256 e …` are expert `e`, which device `e / 2` holds at `e % 2`. -/
def wAll : Vec F S2048x512 .bf16 := fun i =>
  estg m ⟨(i 0).val / 512, Nat.div_lt_of_lt_mul (i 0).isLt⟩
    (ix3 (⟨(i 0).val / 256 % 2, Nat.mod_lt _ (by decide)⟩ : Fin 2) (⟨(i 0).val % 256, Nat.mod_lt _ (by decide)⟩ : Fin 256) (i 1))

/-- Ownership of one row block of each table and of one of the device's own experts. -/
def wPt (c : Dev nD) (e : Fin 8) (q : PosShare TreeShare) (f : Vec F S2048x512 .bf16) : sProp 𝕄 :=
  (c : Thread nD τ).loc cc0_scratch0 ↦[wRows e]{q} f
def hPt (c : Dev nD) (d : Dev nD) (q : PosShare TreeShare) (f : Vec F S4x8 .f32) : sProp 𝕄 :=
  (c : Thread nD τ).loc cc0_scratch1 ↦[hRows d]{q} f
def ePt (c : Dev nD) (b : Fin 2) (q : PosShare TreeShare) : sProp 𝕄 :=
  (c : Thread nD τ).loc cc0_stg2_0 ↦[eSlab b]{q} estg m c

/-- The rows copy `t` lands in on device `d`, at contents `h` of the histogram table and `w` of the expert table. -/
def land (t : Fin 9) (d : Dev nD) (h : Vec F S4x8 .f32) (w : Vec F S2048x512 .bf16) : sProp 𝕄 :=
  match t with
  | 0 => hPt d (lft d) fullShare h
  | 1 => hPt d (rgt d) fullShare h
  | 2 => hPt d (opp d) fullShare h
  | 3 => wPt d (ex (lft d) 0) fullShare w
  | 4 => wPt d (ex (lft d) 1) fullShare w
  | 5 => wPt d (ex (rgt d) 1) fullShare w
  | 6 => wPt d (ex (rgt d) 0) fullShare w
  | 7 => wPt d (ex (opp d) 0) fullShare w
  | 8 => wPt d (ex (opp d) 1) fullShare w

/-- What the sender of copy `t` lends to it: a share of the source rows, the rest of which stays with it. -/
def lent (t : Fin 9) (c : Dev nD) : sProp 𝕄 :=
  match t with
  | 0 => hPt c c fullShare.right.left (histAll m)
  | 1 => hPt c c fullShare.right.right (histAll m)
  | 2 => hPt c (lft c) fullShare.right (histAll m)
  | 3 => ePt m c 0 fullShare.right.left
  | 4 => ePt m c 1 fullShare.right.right
  | 5 => ePt m c 1 fullShare.right.left
  | 6 => ePt m c 0 fullShare.right.right
  | 7 => wPt c (ex (lft c) 0) fullShare.right (wAll m)
  | 8 => wPt c (ex (rgt c) 1) fullShare.right (wAll m)

/-- A landing place before the copy: the rows, at contents that do not matter. -/
def free (t : Fin 9) (d : Dev nD) : sProp 𝕄 := iprop(∃ h w, land (F := F) t d h w)
/-- A landing place after the copy: the rows, at their part of the tables. -/
def landed (t : Fin 9) (d : Dev nD) : sProp 𝕄 := land t d (histAll m) (wAll m)

omit [FloatOps F] in
instance wPt_storable (c : Dev nD) (e : Fin 8) (q) (f : Vec F S2048x512 .bf16) : BI.Storable (upEmb : UEmb _ 𝕄) (wPt c e q f) := by unfold wPt; infer_instance
omit [FloatOps F] in
instance hPt_storable (c d : Dev nD) (q) (f : Vec F S4x8 .f32) : BI.Storable (upEmb : UEmb _ 𝕄) (hPt c d q f) := by unfold hPt; infer_instance
omit [FloatOps F] in
instance ePt_storable (c : Dev nD) (b : Fin 2) (q) : BI.Storable (upEmb : UEmb _ 𝕄) (ePt m c b q) := by unfold ePt; infer_instance
omit [FloatOps F] in
instance land_storable (t : Fin 9) (d : Dev nD) (h : Vec F S4x8 .f32) (w) : BI.Storable (upEmb : UEmb _ 𝕄) (land t d h w) := by
  unfold land; split <;> infer_instance
instance lent_storable (t : Fin 9) (c : Dev nD) : BI.Storable (upEmb : UEmb _ 𝕄) (lent m t c) := by
  unfold lent; split <;> infer_instance
omit [FloatOps F] in
instance free_storable (t : Fin 9) (d : Dev nD) : BI.Storable (upEmb : UEmb _ 𝕄) (free (F := F) t d) := by unfold free; infer_instance
instance landed_storable (t : Fin 9) (d : Dev nD) : BI.Storable (upEmb : UEmb _ 𝕄) (landed m t d) := by unfold landed; infer_instance

/-! ## The schedule -/

/-- The credit of a histogram row and of an expert. -/
abbrev hN : ℕ := ((hM.slice (Rect.unit (s := S4x8) ![0, 0] S1x8.size (by decide)) (fun _ => rfl)) : Memref sig .tc .vmem S1x8 .f32).view.dmaCredit
abbrev wN : ℕ := ((wM.slice (Rect.unit (s := S2048x512) ![0, 0] S256x512.size (by decide)) (fun _ => rfl)) : Memref sig .tc .vmem S256x512 .bf16).view.dmaCredit
def units (t : Fin 9) : ℕ := if t.val < 3 then hN else wN

theorem units_pos (t : Fin 9) : 0 < units t := by
  unfold units; split
  · exact View.dmaCredit_pos _ (by decide)
  · exact View.dmaCredit_pos _ (by decide)

/-- What a barrier signal hands device `c`: from the device after it (`true`), the landing rows of `c`'s copies to the right;
    from the device before it (`false`), those of its copies to the left. -/
def barPay (c : Dev nD) (b : Bool) : sProp 𝕄 :=
  if b then iprop(free (F := F) 0 (rgt c) ∗ free (F := F) 2 (rgt c) ∗ free (F := F) 3 (rgt c) ∗ free (F := F) 4 (rgt c) ∗ free (F := F) 7 (rgt c))
  else iprop(free (F := F) 1 (lft c) ∗ free (F := F) 5 (lft c) ∗ free (F := F) 6 (lft c) ∗ free (F := F) 8 (lft c))

omit [FloatOps F] in
instance barPay_storable (c : Dev nD) (b : Bool) : BI.Storable (upEmb : UEmb _ 𝕄) (barPay (F := F) c b) := by
  unfold barPay; split <;> infer_instance

/-- What a copy's end hands over. -/
def endPay (x : Option (Bool × Fin 9)) (c : Dev nD) : sProp 𝕄 :=
  match x with
  | none => iprop(emp)
  | some (true, t) => lent m t c
  | some (false, t) => landed m t c

instance endPay_storable (x : Option (Bool × Fin 9)) (c : Dev nD) : BI.Storable (upEmb : UEmb _ 𝕄) (endPay m x c) := by
  unfold endPay; split <;> infer_instance

/-- The units one payment raises a semaphore by. -/
def amt (s : SemLoc sig) : ℕ := match s with
  | .reg _ => 1
  | .dma j => match role j with | none => 1 | some x => units x.2

theorem amt_pos (s : SemLoc sig) : 0 < amt s := by
  unfold amt; split
  · exact Nat.one_pos
  · split
    · exact Nat.one_pos
    · exact units_pos _

/-- What a cell's payment hands over. -/
def pay (s : SemLoc sig) (c : Dev nD) (b : Bool) : sProp 𝕄 := match s with
  | .reg _ => barPay c b
  | .dma j => endPay m (role j) c

instance pay_storable (s : SemLoc sig) (c : Dev nD) (b : Bool) : BI.Storable (upEmb : UEmb _ 𝕄) (pay m s c b) := by
  unfold pay; split <;> infer_instance

/-- One round per cell: a barrier cell is raised once by each neighbour, each end of a copy once by the copy. -/
def sched : Rounds.Schedule (GSem nD τ sig) Bool 𝕄 where
  duties g r := if r = 0 ∧ g.1.2 = .tc then
      (match g.2 with | .reg s => if s = barS then Finset.univ else ∅ | .dma j => if (role j).isSome then {false} else ∅) else ∅
  unitless _ := False
  amount g _ _ := amt g.2
  payload g _ b := pay m g.2 g.1.1 b
  amount_pos g _ _ _ := amt_pos g.2

instance sched_payload_storable (g : GSem nD τ sig) (r : ℕ) (b : Bool) :
    BI.Storable (upEmb : UEmb _ 𝕄) ((sched (F := F) m).payload g r b) := pay_storable m g.2 g.1.1 b

section Sched
variable (c : Dev nD) (t : Fin 9)

theorem duties_bar : (sched (F := F) m).duties (barCell c) 0 = Finset.univ := by
  dsimp only [sched]; rw [if_pos ⟨rfl, rfl⟩, if_pos rfl]
theorem duties_send : (sched (F := F) m).duties (sendCell t c) 0 = {false} := by
  dsimp only [sched]; rw [if_pos ⟨rfl, rfl⟩, role_sendS]; exact if_pos rfl
theorem duties_recv : (sched (F := F) m).duties (recvCell t c) 0 = {false} := by
  dsimp only [sched]; rw [if_pos ⟨rfl, rfl⟩, role_recvS]; exact if_pos rfl
theorem duties_later (g : GSem nD τ sig) : ∀ r, 1 ≤ r → (sched (F := F) m).duties g r = ∅ :=
  fun r hr => by dsimp only [sched]; rw [if_neg fun h => by omega]

theorem amount_bar (b : Bool) : (sched (F := F) m).amount (barCell c) 0 b = 1 := rfl
theorem amount_send (b : Bool) : (sched (F := F) m).amount (sendCell t c) 0 b = units t := by dsimp only [sched, amt]; rw [role_sendS]
theorem amount_recv (b : Bool) : (sched (F := F) m).amount (recvCell t c) 0 b = units t := by dsimp only [sched, amt]; rw [role_recvS]

theorem expect_bar : (sched (F := F) m).expect (barCell c) 0 = 2 := by
  unfold Schedule.expect Schedule.amountOf; rw [duties_bar]; rfl
theorem expect_send : (sched (F := F) m).expect (sendCell t c) 0 = units t := by
  unfold Schedule.expect Schedule.amountOf; rw [duties_send, Finset.sum_singleton, amount_send]
theorem expect_recv : (sched (F := F) m).expect (recvCell t c) 0 = units t := by
  unfold Schedule.expect Schedule.amountOf; rw [duties_recv, Finset.sum_singleton, amount_recv]

theorem payload_bar (b : Bool) : (sched (F := F) m).payload (barCell c) 0 b = barPay c b := rfl
theorem payload_send (b : Bool) : (sched (F := F) m).payload (sendCell t c) 0 b = lent m t c := by
  dsimp only [sched, pay]; rw [role_sendS]; rfl
theorem payload_recv (b : Bool) : (sched (F := F) m).payload (recvCell t c) 0 b = landed m t c := by
  dsimp only [sched, pay]; rw [role_recvS]; rfl

/-- All a barrier wait brings: both neighbours' landing rows. -/
theorem rest_bar : bigSep ((sched (F := F) m).duties (barCell c) 0 \ ∅) (fun d => (sched (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_send : bigSep ((sched (F := F) m).duties (sendCell t c) 0 \ ∅) (fun d => (sched (F := F) m).payload (sendCell t c) 0 d) = lent m t c := by
  rw [Finset.sdiff_empty, duties_send, bigSep_singleton, payload_send]
theorem rest_recv : bigSep ((sched (F := F) m).duties (recvCell t c) 0 \ ∅) (fun d => (sched (F := F) m).payload (recvCell t c) 0 d) = landed m t c := by
  rw [Finset.sdiff_empty, duties_recv, bigSep_singleton, payload_recv]

end Sched

/-! ## What is owed, and the levels that order the waits -/

/-- The units device `c` owes for the copies of a list, the head to be paid first. -/
def owed (c : Dev nD) : List (Fin 9) → CellTallies nD τ sig Unit
  | [] => 0
  | t :: ts => owed c ts + tallyAt (recvCell t (dst t c)) () (units t)

/-- The copies in program order. -/
abbrev order : List (Fin 9) := [0, 1, 3, 5, 2, 4, 6, 7, 8]

def owes1 (c : Dev nD) : CellTallies nD τ sig Unit := owed c order + tallyAt (barCell (rgt c)) () 1
/-- All device `c` owes at launch: the nine copies and the two barrier signals, the one to the device before it first. -/
def owes0 (c : Dev nD) : CellTallies nD τ sig Unit := owes1 c + tallyAt (barCell (lft c)) () 1

def L (g : GSem nD τ sig) : Finset Unit := if g.1.2 = .tc then {()} else ∅
/-- The level of a copy's receive cell. -/
def lvT (t : Fin 9) : ℕ := (![2, 3, 3, 4, 6, 5, 6, 6, 6] : Fin 9 → ℕ) t
def lv (g : GSem nD τ sig) (_ : Unit) : ℕ := match g.2 with
  | .reg _ => 1
  | .dma j => match role j with | some (false, t) => lvT t | _ => 0

theorem lvT_pos (t : Fin 9) : 0 < lvT t := by revert t; decide
theorem L_of_ne (g : GSem nD τ sig) (h : g.1.2 ≠ .tc) : L g = ∅ := if_neg h
theorem L_tc (c : Dev nD) (sm : SemLoc sig) : L ((c : Thread nD τ), sm) = {()} := if_pos rfl
theorem lv_recv (t : Fin 9) (c : Dev nD) (u : Unit) : lv (recvCell t c) u = lvT t := by dsimp only [lv]; rw [role_recvS]
theorem lv_bar (c : Dev nD) (u : Unit) : lv (barCell c) u = 1 := rfl

theorem owed_pos {c : Dev nD} {g : GSem nD τ sig} {u : Unit} : ∀ {l : List (Fin 9)}, 0 < owed c l g u → ∃ t ∈ l, g = recvCell t (dst t c)
  | [], h => absurd h (Nat.lt_irrefl 0)
  | t :: ts, h => by
    unfold owed at h
    rw [Pi.add_apply, Finsupp.add_apply, tallyAt_apply] at h
    by_cases ht : g = recvCell t (dst t c) ∧ u = ()
    · exact ⟨t, List.mem_cons_self, ht.1⟩
    · rw [if_neg ht, Nat.add_zero] at h
      obtain ⟨t', hm, hg⟩ := owed_pos h
      exact ⟨t', List.mem_cons_of_mem _ hm, hg⟩

theorem owes0_pos {c : Dev nD} {g : GSem nD τ sig} {u : Unit} (h : 0 < owes0 c g u) :
    (∃ t, g = recvCell t (dst t c)) ∨ g = barCell (rgt c) ∨ g = barCell (lft c) := by
  unfold owes0 owes1 at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨t, _, hg⟩ := owed_pos (show 0 < owed c order g u from h)
  exact hn.1 ⟨t, hg⟩

/-- A wait on a cell of level `n` is allowed while only copies to cells above `n` are owed. -/
theorem mayWait_owed (c : Dev nD) (sm : SemLoc sig) (n : ℕ) (hn : lv ((c : Thread nD τ), sm) () = n) (l : List (Fin 9)) (hl : ∀ t ∈ l, n < lvT t) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨t, _, rfl⟩ := owed_pos hg; rw [L_tc]; exact Finset.mem_singleton_self _)
    (fun p hp => by rw [Finset.mem_singleton.mp hp]; exact le_of_eq hn)
    (fun g u hg => by obtain ⟨t, ht, rfl⟩ := owed_pos hg; rw [lv_recv]; exact hl t ht)

/-- The pipeline's own semaphores may be waited on at any time. -/
theorem mayWait_stage (c : Dev nD) (q : DmaSem sig) (hq : role q = none) (O : CellTallies nD τ sig Unit) (hO : O = owes0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owes0_pos hg with ⟨t, rfl⟩ | rfl | rfl <;> rw [L_tc] <;> exact Finset.mem_singleton_self _)
      (fun p hp => by rw [Finset.mem_singleton.mp hp]; dsimp only [lv]; rw [hq])
      (fun g u hg => by
        rcases owes0_pos hg with ⟨t, rfl⟩ | rfl | rfl
        · rw [lv_recv]; exact lvT_pos t
        · exact Nat.one_pos
        · exact Nat.one_pos)
  · rw [MayWait_zero]; iintro -; iempintro

end Cert.KernelIdeal.Moe

end
-- ==== Proof.Steps.lean ====
/-
One step of the exchange at a time: a copy issued, a copy's end waited for, the barrier raised and passed.  Each rule
names only the copy's number, the semaphores and the row blocks; the offsets the program computes enter as equations.
-/
module

public import proofs.«01_k».proof.Proof.Protocol

@[expose] public section

noncomputable section

namespace Cert.KernelIdeal.Moe

open Cert.KernelIdeal Cert.KernelIdeal.Gen
open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows a slice covers -/

theorem mem_wRows {e : Fin 8} {i : S2048x512.Idx} : i ∈ wRows e ↔ (i 0).val / 256 = e.val := by
  unfold wRows; rw [Finset.mem_filter]; exact ⟨fun h => h.2, fun h => ⟨Finset.mem_univ _, h⟩⟩
theorem mem_hRows {d : Dev nD} {i : S4x8.Idx} : i ∈ hRows d ↔ (i 0).val = d.val := by
  unfold hRows; rw [Finset.mem_filter]; exact ⟨fun h => h.2, fun h => ⟨Finset.mem_univ _, h⟩⟩
theorem mem_eSlab {b : Fin 2} {i : S2x256x512.Idx} : i ∈ eSlab b ↔ (i 0).val = b.val := by
  unfold eSlab; rw [Finset.mem_filter]; exact ⟨fun h => h.2, fun h => ⟨Finset.mem_univ _, h⟩⟩

abbrev wSl (off : Fin 2 → ℕ) (inb : ∀ a, off a + S256x512.size a ≤ S2048x512.size a) : Memref sig .tc .vmem S256x512 .bf16 :=
  wM.slice (Rect.unit (s := S2048x512) off S256x512.size inb) (fun _ => rfl)
abbrev hSl (off : Fin 2 → ℕ) (inb : ∀ a, off a + S1x8.size a ≤ S4x8.size a) : Memref sig .tc .vmem S1x8 .f32 :=
  hM.slice (Rect.unit (s := S4x8) off S1x8.size inb) (fun _ => rfl)
abbrev eSl (off : Fin 3 → ℕ) (inb : ∀ a, off a + S1x256x512.size a ≤ S2x256x512.size a) : Memref sig .tc .vmem S256x512 .bf16 :=
  (eM.slice (Rect.unit (s := S2x256x512) off S1x256x512.size inb) (fun _ => rfl)).squeeze S256x512 squeezes_S1x256x512_S256x512

theorem wSl_rows {off inb} (e : Fin 8) (h : off = ![256 * e.val, 0]) :
    (Rect.unit (s := S2048x512) off S256x512.size inb).set = wRows e := by
  subst h; ext i
  rw [mem_wRows, Rect.mem_set_unit]
  have h0 := (i 0).isLt; have h1 := (i 1).isLt
  constructor
  · intro h; have := h 0; simp only [Matrix.cons_val_zero] at this; omega
  · intro h a
    fin_cases a
    · show 256 * e.val ≤ (i 0).val ∧ (i 0).val < 256 * e.val + 256; omega
    · show 0 ≤ (i 1).val ∧ (i 1).val < 0 + 512; exact ⟨Nat.zero_le _, by simpa using h1⟩
theorem hSl_rows {off inb} (d : Dev nD) (h : off = ![d.val, 0]) :
    (Rect.unit (s := S4x8) off S1x8.size inb).set = hRows d := by
  subst h; ext i
  rw [mem_hRows, Rect.mem_set_unit]
  have h1 := (i 1).isLt
  constructor
  · intro h; have := h 0; simp only [Matrix.cons_val_zero] at this; omega
  · intro h a
    fin_cases a
    · show d.val ≤ (i 0).val ∧ (i 0).val < d.val + 1; omega
    · show 0 ≤ (i 1).val ∧ (i 1).val < 0 + 8; exact ⟨Nat.zero_le _, by simpa using h1⟩
theorem eSl_rows {off inb} (b : Fin 2) (h : off = ![b.val, 0, 0]) :
    (Rect.unit (s := S2x256x512) off S1x256x512.size inb).set = eSlab b := by
  subst h; ext i
  rw [mem_eSlab, Rect.mem_set_unit]
  have h1 := (i 1).isLt; have h2 := (i 2).isLt
  constructor
  · intro h; have := h 0; simp only [Matrix.cons_val_zero] at this; omega
  · intro h a
    fin_cases a
    · show b.val ≤ (i 0).val ∧ (i 0).val < b.val + 1; omega
    · show 0 ≤ (i 1).val ∧ (i 1).val < 0 + 256; exact ⟨Nat.zero_le _, by simpa using h1⟩
    · show 0 ≤ (i 2).val ∧ (i 2).val < 0 + 512; exact ⟨Nat.zero_le _, by simpa using h2⟩

theorem wSl_set {off inb} (e : Fin 8) (h : off = ![256 * e.val, 0]) : (wSl off inb).view.set = wRows e :=
  (View.set_slice_whole _ _).trans (wSl_rows e h)
theorem hSl_set {off inb} (d : Dev nD) (h : off = ![d.val, 0]) : (hSl off inb).view.set = hRows d :=
  (View.set_slice_whole _ _).trans (hSl_rows d h)
theorem eSl_set {off inb} (b : Fin 2) (h : off = ![b.val, 0, 0]) : (eSl off inb).view.set = eSlab b :=
  (View.set_reshape _ _).trans ((View.set_slice_whole _ _).trans (eSl_rows b h))

/-- An element of the expert table, found in the block it comes from. -/
theorem wAll_at (c : Dev nD) (b : Fin 2) (p : Fin 256) (q : Fin 512) (i : S2048x512.Idx)
    (h0 : (i 0).val = 256 * (ex c b).val + p.val) (h1 : (i 1).val = q.val) : wAll m i = estg m c (ix3 b p q) := by
  have hc : c.val < 4 := c.isLt
  have hb := b.isLt; have hp := p.isLt
  have hex : (ex c b).val = 2 * c.val + b.val := rfl
  unfold wAll
  have ed : (⟨(i 0).val / 512, Nat.div_lt_of_lt_mul (i 0).isLt⟩ : Dev nD) = c := Fin.ext (by show _ / 512 = c.val; omega)
  rw [ed]
  refine congrArg (estg m c) ?_
  have e0 : (⟨(i 0).val / 256 % 2, Nat.mod_lt _ (by decide)⟩ : Fin 2) = b := Fin.ext (by show _ / 256 % 2 = b.val; omega)
  have e1 : (⟨(i 0).val % 256, Nat.mod_lt _ (by decide)⟩ : Fin 256) = p := Fin.ext (by show _ % 256 = p.val; omega)
  have e2 : (i 1 : Fin 512) = q := Fin.ext h1
  rw [e0, e1, ← e2]

/-- An expert copied from the device's own block lands as its rows of the expert table. -/
theorem eSl_write (c : Dev nD) (b : Fin 2) (eoff : Fin 3 → ℕ) (einb) (off : Fin 2 → ℕ) (inb) (he : eoff = ![b.val, 0, 0]) (ho : off = ![256 * (ex c b).val, 0])
    (fd : Vec F S2048x512 .bf16) (i : S2048x512.Idx) (hi : i ∈ wRows (ex c b)) :
    (wSl off inb).view.write (Elt F) fd ((eSl eoff einb).view.read (Elt F) (estg m c)) Finset.univ i = wAll m i := by
  rw [← wSl_set (inb := inb) (ex c b) ho] at hi
  obtain ⟨x, -, rfl⟩ := Finset.mem_map.mp hi
  rw [View.write_emb_of_mem (h := Finset.mem_univ _)]
  rw [wAll_at m c b (x 0) (x 1) _ ((show _ = off 0 + 1 * (x 0).val from rfl).trans (by rw [congrFun ho 0, Nat.one_mul]; rfl))
    ((show _ = off 1 + 1 * (x 1).val from rfl).trans (by rw [congrFun ho 1, Nat.one_mul]; exact Nat.zero_add _))]
  show estg m c ((Rect.unit (s := S2x256x512) eoff S1x256x512.size einb).emb (Shape.reshapeEquiv _ x)) = _
  have hre : Shape.reshapeEquiv squeezes_S1x256x512_S256x512.numel_eq x = ix3 (⟨0, Nat.one_pos⟩ : Fin 1) (x 0) (x 1) :=
    (congrArg (Shape.reshapeEquiv squeezes_S1x256x512_S256x512.numel_eq) (eq_ix2 x)).trans (ValueIdx.reshapeEquiv_ix2_1ab _ (x 0) (x 1))
  refine congrArg (estg m c) ?_
  subst he
  refine (congrArg (Rect.unit (s := S2x256x512) ![b.val, 0, 0] S1x256x512.size einb).emb hre).trans ?_
  funext a
  fin_cases a
  · refine Fin.ext ?_
    show b.val + 1 * 0 = b.val
    omega
  · refine Fin.ext ?_
    show 0 + 1 * (x 0).val = (x 0).val
    omega
  · refine Fin.ext ?_
    show 0 + 1 * (x 1).val = (x 1).val
    omega

theorem wSl_write (off : Fin 2 → ℕ) (inb) (off' : Fin 2 → ℕ) (inb') (h : off' = off) (fd f : Vec F S2048x512 .bf16) (i : S2048x512.Idx)
    (hi : i ∈ (wSl off inb).view.set) :
    (wSl off inb).view.write (Elt F) fd ((wSl off' inb').view.read (Elt F) f) Finset.univ i = f i := by
  subst h; rw [View.write_read_eq_piecewise, View.setOn_univ]; exact Finset.piecewise_eq_of_mem _ _ _ hi
theorem hSl_write (off : Fin 2 → ℕ) (inb) (off' : Fin 2 → ℕ) (inb') (h : off' = off) (fd f : Vec F S4x8 .f32) (i : S4x8.Idx)
    (hi : i ∈ (hSl off inb).view.set) :
    (hSl off inb).view.write (Elt F) fd ((hSl off' inb').view.read (Elt F) f) Finset.univ i = f i := by
  subst h; rw [View.write_read_eq_piecewise, View.setOn_univ]; exact Finset.piecewise_eq_of_mem _ _ _ hi

/-! ## Halves of a row block -/

omit [FloatOps F] in
theorem wPt_halves (c : Dev nD) (e : Fin 8) (f : Vec F S2048x512 .bf16) :
    (wPt c e fullShare f : sProp 𝕄) ⊢ iprop(wPt c e fullShare.left f ∗ wPt c e fullShare.right f) := by
  unfold wPt; exact (pointsTo_share (PosShare.mem_left_op_right fullShare)).1
omit [FloatOps F] in
theorem wPt_whole (c : Dev nD) (e : Fin 8) (f : Vec F S2048x512 .bf16) :
    iprop(wPt c e fullShare.left f ∗ wPt c e fullShare.right f) ⊢ (wPt c e fullShare f : sProp 𝕄) := by
  unfold wPt; exact (pointsTo_share (PosShare.mem_left_op_right fullShare)).2
omit [FloatOps F] in
theorem hPt_halves (c d : Dev nD) (f : Vec F S4x8 .f32) :
    (hPt c d fullShare f : sProp 𝕄) ⊢ iprop(hPt c d fullShare.left f ∗ hPt c d fullShare.right f) := by
  unfold hPt; exact (pointsTo_share (PosShare.mem_left_op_right fullShare)).1
omit [FloatOps F] in
theorem hPt_whole (c d : Dev nD) (f : Vec F S4x8 .f32) :
    iprop(hPt c d fullShare.left f ∗ hPt c d fullShare.right f) ⊢ (hPt c d fullShare f : sProp 𝕄) := by
  unfold hPt; exact (pointsTo_share (PosShare.mem_left_op_right fullShare)).2

/-! ## Records -/

/-- Every cell's invariant, every cell's round 0 reached, and the levels: what every device may copy freely. -/
def known (K : CIx → ℕ) : sProp 𝕄 :=
  iprop((bigSep Finset.univ fun x : CIx => cellInv EX (sched m) (K x) (kcell x)) ∗ (bigSep Finset.univ fun x : CIx => reached EX (kcell x) 0) ∗ levAts L lv)

instance known_persistent (K) : BI.Persistent (known m K) := by unfold known; infer_instance

theorem known_inv (K) (x : CIx) : known m K ⊢ cellInv EX (sched m) (K x) (kcell x) :=
  sep_elim_left.trans (bigSep_elim (Finset.mem_univ x))
theorem known_reached (K) (x : CIx) : known m K ⊢ reached EX (kcell x) 0 :=
  sep_elim_right.trans (sep_elim_left.trans (bigSep_elim (Finset.mem_univ x)))
theorem known_levs (K) : known m K ⊢ levAts L lv := sep_elim_right.trans sep_elim_right

/-- What device `c` owes for a list of copies, whatever it has waited on so far. -/
def debt (c : Dev nD) (O : CellTallies nD τ sig Unit) : sProp 𝕄 := iprop(∃ W, owes (c : Thread nD τ) O W)
/-- The two duties copy `t` of device `c` discharges. -/
def copyTok (t : Fin 9) (c : Dev nD) : sProp 𝕄 := iprop(dutyTok EX (sendCell t c) 0 false ∗ dutyTok EX (recvCell t (dst t c)) 0 false)
/-- The credit a copy's issue leaves its sender to wait with, and the position it waits at. -/
def sendCred (t : Fin 9) (c : Dev nD) : sProp 𝕄 := cred (tallyAt (sendCell t c) () (units t))
def sendAt (t : Fin 9) (c : Dev nD) : sProp 𝕄 := atPos EX (sendCell t c) 0 ∅ 0
/-- What a receiver waits for copy `t` with. -/
def recvKey (t : Fin 9) (c : Dev nD) : sProp 𝕄 := iprop(cred (tallyAt (recvCell t c) () (units t)) ∗ atPos EX (recvCell t c) 0 ∅ 0)

/-- The kernel has no loops to bound. -/
abbrev 𝒱₀ : Variants := Variants.none

abbrev wpk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A copy issued -/

theorem wp_copy (K) (c n : Dev nD) (t : Fin 9) (hn : n = dst t c) {s : Shape} {e : EltTy}
    {src : Memref sig .tc .vmem s e} {dst' : Memref sig .tc .vmem s e} {hsc : dst'.view.ref.isScScratch = false} {sS sem : SemLoc sig}
    (hsS : sS = .dma (sendS t)) (hsem : sem = .dma (recvS t))
    {hsrc : src.view.WordExact} {hdst : dst'.view.WordExact} {hty : DmaTarget.Typed .vmem sem (.remote (Dev.tc n : Thread nD τ) dst' sS hsc)}
    {α : Type} {k : PUnit → Prog (TpuEff nD τ sig (Elt F) Λ₀ .tc) α} {Q : α → sProp 𝕄} (ts : List (Fin 9))
    (q : PosShare TreeShare) (fs : Buf (Elt F) (src.view.loc (c : Thread nD τ))) (fd : Buf (Elt F) (dst'.view.loc (n : Thread nD τ)))
    (hcr : dst'.view.dmaCredit = units t)
    (hp1 : (src.view.loc (c : Thread nD τ) ↦[src.view.set]{q} fs : sProp 𝕄) ⊢ lent m t c)
    (hp2 : (dst'.view.loc (n : Thread nD τ) ↦[dst'.view.set]{fullShare} (dst'.view.write (Elt F) fd (src.view.read (Elt F) fs) Finset.univ) : sProp 𝕄)
      ⊢ landed m t (dst t c)) :
    iprop(known m K ∗ (src.view.loc (c : Thread nD τ) ↦[src.view.set]{q} fs) ∗ (dst'.view.loc (n : Thread nD τ) ↦[dst'.view.set]{fullShare} fd)
        ∗ debt c (owed c (t :: ts)) ∗ copyTok t c)
      ⊢ iprop(((sendCred t c ∗ debt c (owed c ts)) -∗ wpk c (k ⟨⟩) Q)
          -∗ wpk c (.op (.enqueueDma src (.remote (Dev.tc n : Thread nD τ) dst' sS hsc) sem hsrc hdst hty) k) Q) := by
  subst hn hsS hsem
  unfold debt copyTok sendCred
  iintro ⟨#HK, Hs, Hd, ⟨%W, HO⟩, HtS, HtR⟩
  ihave #HIs := (known_inv m K (c, .inr (true, t))) $$ HK
  ihave #HIr := (known_inv m K (dst t c, .inr (false, t))) $$ HK
  ihave #Hrs := (known_reached m K (c, .inr (true, t))) $$ HK
  ihave #Hrr := (known_reached m K (dst t c, .inr (false, t))) $$ HK
  iintro Hk
  iapply (Rounds.wp_send_pointsTo 𝒱₀ EX (sched m) (c : Thread nD τ) none (c' := (dst t c : Thread nD τ)) (src := src) (dst := dst') (sS := .dma (sendS t)) (sem := .dma (recvS t)) (κ₁ := K (c, .inr (true, t))) (κ₂ := K (dst t c, .inr (false, t)))
      (r₁ := 0) (r₂ := 0) (d₁ := false) (d₂ := false) (W := W)
      (by rw [duties_send]; exact Finset.mem_singleton_self _) (by rw [duties_recv]; exact Finset.mem_singleton_self _) () () (units t)
      hcr (amount_send m c t false) (amount_recv m (dst t c) t false) (owed c ts) rfl
      (by rw [payload_send]; exact hp1) (by rw [payload_recv]; exact hp2)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [Hc]; · iexact Hc
  iexists W; iexact HO

/-- What a copy takes, beyond the records and the debt. -/
def ready (t : Fin 9) (c : Dev nD) : sProp 𝕄 := iprop(lent m t c ∗ free (F := F) t (dst t c) ∗ copyTok t c)

/-- A histogram row copied to the neighbour. -/
theorem wp_copy_h (K) (c n : Dev nD) (t : Fin 9) (r : Dev nD) (q : PosShare TreeShare) (hn : n = dst t c)
    (h1 : lent m t c = hPt c r q (histAll m)) (h2 : ∀ h w, land (F := F) t (dst t c) h w = hPt (dst t c) r fullShare h)
    {off off' : Fin 2 → ℕ} {inb inb'} (ho : off = ![r.val, 0]) (ho' : off' = ![r.val, 0])
    {hsc : (hSl off' inb').view.ref.isScScratch = false} {sS sem : SemLoc sig}
    (hsS : sS = .dma (sendS t)) (hsem : sem = .dma (recvS t))
    {hsrc : (hSl off inb).view.WordExact} {hdst : (hSl off' inb').view.WordExact}
    {hty : DmaTarget.Typed .vmem sem (.remote (Dev.tc n : Thread nD τ) (hSl off' inb') sS hsc)}
    {α : Type} {k : PUnit → Prog (TpuEff nD τ sig (Elt F) Λ₀ .tc) α} {Q : α → sProp 𝕄} (ts : List (Fin 9)) (hu : units t = hN) :
    iprop(known m K ∗ ready m t c ∗ debt c (owed c (t :: ts)))
      ⊢ iprop(((sendCred t c ∗ debt c (owed c ts)) -∗ wpk c (k ⟨⟩) Q)
          -∗ wpk c (.op (.enqueueDma (hSl off inb) (.remote (Dev.tc n : Thread nD τ) (hSl off' inb') sS hsc) sem hsrc hdst hty) k) Q) := by
  subst hn
  have hset := hSl_set (inb := inb) r ho
  have hset' := hSl_set (inb := inb') r ho'
  unfold ready free
  rw [h1]
  iintro ⟨#HK, ⟨Hs, ⟨%h, %w, Hd⟩, Ht⟩, HO⟩ Hk
  ihave Hd := (Entails.of_eq (h2 h w)) $$ Hd
  unfold hPt
  iapply (wp_copy m K c (dst t c) t rfl (src := hSl off inb) (dst' := hSl off' inb') hsS hsem ts q (histAll m) h (by rw [hu]; rfl)
    (by rw [h1]; unfold hPt; rw [← hset]) (by
      unfold landed; rw [h2]; unfold hPt; rw [← hset']
      exact Entails.of_eq (pointsTo_congr fun i hi => hSl_write off' inb' off inb (ho.trans ho'.symm) h (histAll m) i hi))) $$ [Hs Hd HO Ht]
  · isplitr; · iexact HK
    isplitl [Hs]; · rw [← hset]; iexact Hs
    isplitl [Hd]; · rw [← hset']; iexact Hd
    isplitl [HO]; · iexact HO
    iexact Ht
  iexact Hk

/-- An expert of the table copied to the neighbour. -/
theorem wp_copy_w (K) (c n : Dev nD) (t : Fin 9) (r : Fin 8) (q : PosShare TreeShare) (hn : n = dst t c)
    (h1 : lent m t c = wPt c r q (wAll m)) (h2 : ∀ h w, land (F := F) t (dst t c) h w = wPt (dst t c) r fullShare w)
    {off off' : Fin 2 → ℕ} {inb inb'} (ho : off = ![256 * r.val, 0]) (ho' : off' = ![256 * r.val, 0])
    {hsc : (wSl off' inb').view.ref.isScScratch = false} {sS sem : SemLoc sig}
    (hsS : sS = .dma (sendS t)) (hsem : sem = .dma (recvS t))
    {hsrc : (wSl off inb).view.WordExact} {hdst : (wSl off' inb').view.WordExact}
    {hty : DmaTarget.Typed .vmem sem (.remote (Dev.tc n : Thread nD τ) (wSl off' inb') sS hsc)}
    {α : Type} {k : PUnit → Prog (TpuEff nD τ sig (Elt F) Λ₀ .tc) α} {Q : α → sProp 𝕄} (ts : List (Fin 9)) (hu : units t = wN) :
    iprop(known m K ∗ ready m t c ∗ debt c (owed c (t :: ts)))
      ⊢ iprop(((sendCred t c ∗ debt c (owed c ts)) -∗ wpk c (k ⟨⟩) Q)
          -∗ wpk c (.op (.enqueueDma (wSl off inb) (.remote (Dev.tc n : Thread nD τ) (wSl off' inb') sS hsc) sem hsrc hdst hty) k) Q) := by
  subst hn
  have hset := wSl_set (inb := inb) r ho
  have hset' := wSl_set (inb := inb') r ho'
  unfold ready free
  rw [h1]
  iintro ⟨#HK, ⟨Hs, ⟨%h, %w, Hd⟩, Ht⟩, HO⟩ Hk
  ihave Hd := (Entails.of_eq (h2 h w)) $$ Hd
  unfold wPt
  iapply (wp_copy m K c (dst t c) t rfl (src := wSl off inb) (dst' := wSl off' inb') hsS hsem ts q (wAll m) w (by rw [hu]; rfl)
    (by rw [h1]; unfold wPt; rw [← hset]) (by
      unfold landed; rw [h2]; unfold wPt; rw [← hset']
      exact Entails.of_eq (pointsTo_congr fun i hi => wSl_write off' inb' off inb (ho.trans ho'.symm) w (wAll m) i hi))) $$ [Hs Hd HO Ht]
  · isplitr; · iexact HK
    isplitl [Hs]; · rw [← hset]; iexact Hs
    isplitl [Hd]; · rw [← hset']; iexact Hd
    isplitl [HO]; · iexact HO
    iexact Ht
  iexact Hk

/-- One of the device's own experts copied to the neighbour's table. -/
theorem wp_copy_e (K) (c n : Dev nD) (t : Fin 9) (b : Fin 2) (q : PosShare TreeShare) (hn : n = dst t c)
    (h1 : lent m t c = ePt m c b q) (h2 : ∀ h w, land (F := F) t (dst t c) h w = wPt (dst t c) (ex c b) fullShare w)
    {off : Fin 3 → ℕ} {off' : Fin 2 → ℕ} {inb inb'} (ho : off = ![b.val, 0, 0]) (ho' : off' = ![256 * (ex c b).val, 0])
    {hsc : (wSl off' inb').view.ref.isScScratch = false} {sS sem : SemLoc sig}
    (hsS : sS = .dma (sendS t)) (hsem : sem = .dma (recvS t))
    {hsrc : (eSl off inb).view.WordExact} {hdst : (wSl off' inb').view.WordExact}
    {hty : DmaTarget.Typed .vmem sem (.remote (Dev.tc n : Thread nD τ) (wSl off' inb') sS hsc)}
    {α : Type} {k : PUnit → Prog (TpuEff nD τ sig (Elt F) Λ₀ .tc) α} {Q : α → sProp 𝕄} (ts : List (Fin 9)) (hu : units t = wN) :
    iprop(known m K ∗ ready m t c ∗ debt c (owed c (t :: ts)))
      ⊢ iprop(((sendCred t c ∗ debt c (owed c ts)) -∗ wpk c (k ⟨⟩) Q)
          -∗ wpk c (.op (.enqueueDma (eSl off inb) (.remote (Dev.tc n : Thread nD τ) (wSl off' inb') sS hsc) sem hsrc hdst hty) k) Q) := by
  subst hn
  have hset := eSl_set (inb := inb) b ho
  have hset' := wSl_set (inb := inb') (ex c b) ho'
  unfold ready free
  rw [h1]
  iintro ⟨#HK, ⟨Hs, ⟨%h, %w, Hd⟩, Ht⟩, HO⟩ Hk
  ihave Hd := (Entails.of_eq (h2 h w)) $$ Hd
  unfold wPt ePt
  iapply (wp_copy m K c (dst t c) t rfl (src := eSl off inb) (dst' := wSl off' inb') hsS hsem ts q (estg m c) w (by rw [hu]; rfl)
    (by rw [h1]; unfold ePt; rw [← hset]) (by
      unfold landed; rw [h2]; unfold wPt; rw [← hset']
      exact Entails.of_eq (pointsTo_congr fun i hi => eSl_write m c b off inb off' inb' ho ho' w i (hset' ▸ hi)))) $$ [Hs Hd HO Ht]
  · isplitr; · iexact HK
    isplitl [Hs]; · rw [← hset]; iexact Hs
    isplitl [Hd]; · rw [← hset']; iexact Hd
    isplitl [HO]; · iexact HO
    iexact Ht
  iexact Hk

/-! ## A copy's end waited for -/

theorem wp_recvd (K) (c : Dev nD) (t : Fin 9) {sem : DmaSem sig} (hs : sem = recvS t) {sp sp' : Space} {s s' : Shape} {e e' : EltTy}
    {src : Memref sig .tc sp' s' e'} {dst' : Memref sig .tc sp s e} {hsrc : src.view.WordExact} {hdst : dst'.view.WordExact}
    (hcr : dst'.view.dmaCredit = units t) (l : List (Fin 9)) (hl : ∀ u ∈ l, lvT t < lvT u)
    {α : Type} {k : PUnit → Prog (TpuEff nD τ sig (Elt F) Λ₀ .tc) α} {Q : α → sProp 𝕄} :
    iprop(known m K ∗ recvKey t c ∗ debt c (owed c l))
      ⊢ iprop(((landed m t c ∗ semVal (recvCell t c) 0 ∗ debt c (owed c l)) -∗ wpk c (k ⟨⟩) Q)
          -∗ wpk c (.op (.waitDma2 sem src dst' hsrc hdst) k) Q) := by
  subst hs
  unfold debt recvKey
  iintro ⟨#HK, ⟨Hc, Hat⟩, ⟨%W, HO⟩⟩ Hk
  ihave #HI := (known_inv m K (c, .inr (false, t))) $$ HK
  ihave #Hlev := (known_levs m K) $$ HK
  iapply (Rounds.wp_wait_rest_token 𝒱₀ EX (sched m) (c : Thread nD τ) none (κ := K (c, .inr (false, t)))
      (wpE_waitDma2_eq 𝒱₀ (c : Thread nD τ) none Set.univ) (Set.mem_univ _) () (O := owed c l) (W := W) (R := 0) (m := 0) (T := ∅)
      (by rw [Nat.zero_add, expect_recv, hcr])) $$ [Hc HO Hat]
  · isplitr; · iexact HI
    isplitl [Hc]; · rw [hcr]; iexact Hc
    isplitl [HO]; · iexact HO
    isplitr; · iapply (mayWait_owed c (.dma (recvS t)) (lvT t) (lv_recv t c ()) l hl); iexact Hlev
    iexact Hat
  iintro ⟨HO, Hat, -, Hpay⟩
  ihave Hp := (Entails.of_eq (rest_recv m c t)) $$ Hpay
  imod (Rounds.cell_close EX (sched m) (Set.mem_univ (K (c, .inr (false, t)))) (fun h => h) (R := 0 + 1) (duties_later m (recvCell t c))) $$ [Hat] with Hz
  · isplitr; · iexact HI
    iexact Hat
  iapply Hk
  isplitl [Hp]; · iexact Hp
  isplitl [Hz]; · iexact Hz
  iexists (insert (SemLoc.dma (recvS t), ()) W); iexact HO

theorem wp_sent (K) (c : Dev nD) (t : Fin 9) {sem : DmaSem sig} (hs : sem = sendS t) {sp sp' : Space} {s s' : Shape} {e e' : EltTy}
    {src : Memref sig .tc sp' s' e'} {dst' : Memref sig .tc sp s e} {hsrc : src.view.WordExact} {hdst : dst'.view.WordExact}
    (hcr : dst'.view.dmaCredit = units t)
    {α : Type} {k : PUnit → Prog (TpuEff nD τ sig (Elt F) Λ₀ .tc) α} {Q : α → sProp 𝕄} :
    iprop(known m K ∗ sendCred t c ∗ sendAt t c ∗ debt c (owed c []))
      ⊢ iprop(((lent m t c ∗ semVal (sendCell t c) 0 ∗ debt c (owed c [])) -∗ wpk c (k ⟨⟩) Q)
          -∗ wpk c (.op (.waitDma2 sem src dst' hsrc hdst) k) Q) := by
  subst hs
  unfold debt sendCred sendAt
  iintro ⟨#HK, Hc, Hat, ⟨%W, HO⟩⟩ Hk
  ihave #HI := (known_inv m K (c, .inr (true, t))) $$ HK
  iapply (Rounds.wp_wait_rest_token 𝒱₀ EX (sched m) (c : Thread nD τ) none (κ := K (c, .inr (true, t)))
      (wpE_waitDma2_eq 𝒱₀ (c : Thread nD τ) none Set.univ) (Set.mem_univ _) () (O := owed c []) (W := W) (R := 0) (m := 0) (T := ∅)
      (by rw [Nat.zero_add, expect_send, hcr])) $$ [Hc HO Hat]
  · isplitr; · iexact HI
    isplitl [Hc]; · rw [hcr]; iexact Hc
    isplitl [HO]; · iexact HO
    isplitr; · rw [show owed c [] = 0 from rfl, MayWait_zero]; iempintro
    iexact Hat
  iintro ⟨HO, Hat, -, Hpay⟩
  ihave Hp := (Entails.of_eq (rest_send m c t)) $$ Hpay
  imod (Rounds.cell_close EX (sched m) (Set.mem_univ (K (c, .inr (true, t)))) (fun h => h) (R := 0 + 1) (duties_later m (sendCell t c))) $$ [Hat] with Hz
  · isplitr; · iexact HI
    iexact Hat
  iapply Hk
  isplitl [Hp]; · iexact Hp
  isplitl [Hz]; · iexact Hz
  iexists (insert (SemLoc.dma (sendS t), ()) W); iexact HO

/-! ## The barrier -/

/-- Raising a neighbour's barrier, handing over the landing rows it will write. -/
theorem wp_raise (K) (c n : Dev nD) (b : Bool) (O : CellTallies nD τ sig Unit)
    {α : Type} {k : PUnit → Prog (TpuEff nD τ sig (Elt F) Λ₀ .tc) α} {Q : α → sProp 𝕄} :
    iprop(known m K ∗ dutyTok EX (barCell n) 0 b ∗ barPay n b ∗ debt c (O + tallyAt (barCell n) () 1))
      ⊢ iprop((debt c O -∗ wpk c (k ⟨⟩) Q)
          -∗ wpk c (.op (.semSignal (Dev.tc n : Thread nD τ) barS 1) k) Q) := by
  unfold debt
  iintro ⟨#HK, Ht, Hp, ⟨%W, HO⟩⟩ Hk
  ihave #HI := (known_inv m K (n, .inl ())) $$ HK
  ihave #Hr := (known_reached m K (n, .inl ())) $$ HK
  iapply (Rounds.wp_signal 𝒱₀ EX (sched m) (c : Thread nD τ) none (dst := (n : Thread nD τ)) (κ := K (n, .inl ())) (d := b)
      (by rw [duties_bar]; exact Finset.mem_univ _) (amount_bar m n b) () O rfl) $$ [Ht Hp HO]
  · isplitr; · iexact HI
    isplitl [HO]; · iexact HO
    isplitl [Ht]; · iexact Ht
    isplitl [Hp]; · rw [payload_bar]; iexact Hp
    iexact Hr
  iintro HO
  iapply Hk
  iexists W; iexact HO

/-- The barrier passed: both neighbours have entered and lent their landing rows. -/
theorem wp_pass (K) (c : Dev nD) (l : List (Fin 9))
    {α : Type} {k : PUnit → Prog (TpuEff nD τ sig (Elt F) Λ₀ .tc) α} {Q : α → sProp 𝕄} (hl : ∀ u ∈ l, 1 < lvT u) :
    iprop(known m K ∗ cred (tallyAt (barCell c) () 2) ∗ atPos EX (barCell c) 0 ∅ 0 ∗ debt c (owed c l))
      ⊢ iprop(((barPay (F := F) c false ∗ barPay (F := F) c true ∗ semVal (barCell c) 0 ∗ debt c (owed c l)) -∗ wpk c (k ⟨⟩) Q)
          -∗ wpk c (.op (.semWait barS 2) k) Q) := by
  unfold debt
  iintro ⟨#HK, Hc, Hat, ⟨%W, HO⟩⟩ Hk
  ihave #HI := (known_inv m K (c, .inl ())) $$ HK
  ihave #Hlev := (known_levs m K) $$ HK
  iapply (Rounds.wp_wait_rest_token 𝒱₀ EX (sched m) (c : Thread nD τ) none (κ := K (c, .inl ()))
      (wpE_semWait_eq 𝒱₀ (c : Thread nD τ) none Set.univ) (Set.mem_univ _) () (O := owed c l) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait_owed c (.reg barS) 1 (lv_bar c ()) l hl); iexact Hlev
    iexact Hat
  iintro ⟨HO, Hat, -, Hpay⟩
  ihave Hp := (Entails.of_eq (rest_bar m c)) $$ Hpay
  icases Hp with ⟨Hp1, Hp2⟩
  imod (Rounds.cell_close EX (sched m) (Set.mem_univ (K (c, .inl ()))) (fun h => h) (R := 0 + 1) (duties_later m (barCell c))) $$ [Hat] with Hz
  · isplitr; · iexact HI
    iexact Hat
  iapply Hk
  isplitl [Hp1]; · iexact Hp1
  isplitl [Hp2]; · iexact Hp2
  isplitl [Hz]; · iexact Hz
  iexists (insert (SemLoc.reg barS, ()) W); iexact HO

end Cert.KernelIdeal.Moe

end
-- ==== Proof.Parts.lean ====
/-
The eleven parts of the kernel's body, each as one step of the exchange: what it needs, what it leaves, and the value
it returns.  Loads of the expert table are read as the expert they address.
-/
module

public import proofs.«01_k».proof.Proof.Steps

@[expose] public section

set_option maxRecDepth 16384

noncomputable section

namespace Cert.KernelIdeal.Moe

open Cert.KernelIdeal Cert.KernelIdeal.Gen
open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Values of the body, step by step -/

/-- Expert `b` of device `d`, as a matrix. -/
def expert (d : Dev nD) (b : Fin 2) : Vec F S256x512 .bf16 := fun i => estg m d (ix3 b (i 0) (i 1))
/-- The same with its leading unit axis, as a device reads its own. -/
def expert1 (d : Dev nD) (b : Fin 2) : Vec F S1x256x512 .bf16 := fun i => estg m d (ix3 b (i 1) (i 2))

/-- The words the body computes from its device number: itself, the one before, the one after, the one opposite. -/
def w2 (c : Dev nD) : BitVec 32 := Scalar.remsi (Scalar.divsi (Dev.word c) 1#32) 4#32
def w5 (c : Dev nD) : BitVec 32 := Scalar.remsi (Scalar.subi (Scalar.addi (w2 c) 4#32) 1#32) 4#32
def w7 (c : Dev nD) : BitVec 32 := Scalar.remsi (Scalar.addi (w2 c) 1#32) 4#32
def w9 (c : Dev nD) : BitVec 32 := Scalar.remsi (Scalar.addi (w2 c) 2#32) 4#32
/-- The expert numbers across the lanes. -/
def lanes : IVec S512x8 32 := iota .tc S512x8 32 [1] iota_S512x8_d1_w32
/-- Which rows a device keeps for which expert. -/
def keepM (c : Dev nD) : FVec F S512x8 .f32 := k0_pay4 (w2 c) (k0_pay1 (rstg m c)) (k0_pay3 (k0_pay1 (rstg m c))) (histAll m)
def xb (c : Dev nD) : FVec F S512x256 .bf16 := k0_pay5 (xstg m c)
/-- The running sum after the device's own two experts and the left neighbour's first. -/
def acc3 (c : Dev nD) : FVec F S512x512 .f32 :=
  k0_pay8 (w2 c) (w5 c) lanes (keepM m c) (xb m c) (k0_pay6 (F := F)) (k0_pay7 (w2 c) lanes (keepM m c) (xb m c)) (expert1 m c 0) (expert1 m c 1) (expert m (lft c) 0)
def acc5 (c : Dev nD) : FVec F S512x512 .f32 :=
  k0_pay9 (w5 c) lanes (keepM m c) (xb m c) (acc3 m c) (Scalar.addi (Scalar.muli (w7 c) 2#32) 1#32) (expert m (rgt c) 1) (expert m (lft c) 1)
def acc6 (c : Dev nD) : FVec F S512x512 .f32 := k0_pay10 (w7 c) lanes (keepM m c) (xb m c) (acc5 m c) (expert m (rgt c) 0)
/-- What device `c` writes: its rows of the result. -/
def outAll (c : Dev nD) : Vec F S512x512 .f32 :=
  k0_pay12 (w9 c) lanes (keepM m c) (xb m c) (acc6 m c) (expert m (opp c) 0) (k0_pay11 (w9 c) lanes (keepM m c)) (expert m (opp c) 1)

/-! ## Loads and stores -/

theorem zero2 : (![0, 0] : Fin 2 → Nat) = fun _ => 0 := funext fun a => by fin_cases a <;> rfl

theorem read_expert (d : Dev nD) (b : Fin 2) {off : Fin 2 → ℕ} {inb} (ho : off = ![256 * (ex d b).val, 0]) :
    wM.view.readAt (Elt F) (Rect.unit (s := S2048x512) off S256x512.size inb).toLoadRect (wAll m) = expert m d b := by
  funext x
  show wAll m _ = _
  exact wAll_at m d b (x 0) (x 1) _ ((show _ = off 0 + 1 * (x 0).val from rfl).trans (by rw [congrFun ho 0, Nat.one_mul]; rfl))
    ((show _ = off 1 + 1 * (x 1).val from rfl).trans (by rw [congrFun ho 1, Nat.one_mul]; exact Nat.zero_add _))

theorem read_expert1 (c : Dev nD) (b : Fin 2) {off : Fin 3 → ℕ} {inb} (ho : off = ![b.val, 0, 0]) :
    eM.view.readAt (Elt F) (Rect.unit (s := S2x256x512) off S1x256x512.size inb).toLoadRect (estg m c) = expert1 m c b := by
  subst ho
  funext x
  have h0 : (x 0).val < 1 := (x 0).isLt
  refine congrArg (estg m c) (funext fun a => ?_)
  fin_cases a
  · refine Fin.ext ?_
    show b.val + 1 * (x 0).val = b.val
    omega
  · refine Fin.ext ?_
    show 0 + 1 * (x 1).val = (x 1).val
    omega
  · refine Fin.ext ?_
    show 0 + 1 * (x 2).val = (x 2).val
    omega

/-- An expert of the table loaded. -/
theorem wp_load_w (c d : Dev nD) (b : Fin 2) (q : PosShare TreeShare) {off : Fin 2 → ℕ} {inb} (ho : off = ![256 * (ex d b).val, 0])
    {hl : wM.view.LoadsAt (Rect.unit (s := S2048x512) off S256x512.size inb).toLoadRect}
    {α : Type} {k : Vec F S256x512 .bf16 → Prog (TpuEff nD τ sig (Elt F) Λ₀ .tc) α} {Q : α → sProp 𝕄} :
    wPt c (ex d b) q (wAll m)
      ⊢ iprop((wPt c (ex d b) q (wAll m) -∗ wpk c (k (expert m d b)) Q)
          -∗ wpk c (.op (.load wM (Rect.unit (s := S2048x512) off S256x512.size inb).toLoadRect hl) k) Q) := by
  rw [← read_expert m d b ho (inb := inb)]
  unfold wPt
  refine wp_load 𝒱₀ (c : Thread nD τ) none Set.univ (m := wM) ?_
  rw [← wSl_rows (inb := inb) (ex d b) ho]
  show Finset.map (Function.Embedding.refl _) _ ⊆ _
  rw [Finset.map_refl]

/-- One of the device's own experts loaded. -/
theorem wp_load_e (c : Dev nD) (b : Fin 2) (q : PosShare TreeShare) {off : Fin 3 → ℕ} {inb} (ho : off = ![b.val, 0, 0])
    {hl : eM.view.LoadsAt (Rect.unit (s := S2x256x512) off S1x256x512.size inb).toLoadRect}
    {α : Type} {k : Vec F S1x256x512 .bf16 → Prog (TpuEff nD τ sig (Elt F) Λ₀ .tc) α} {Q : α → sProp 𝕄} :
    ((c : Thread nD τ).loc cc0_stg2_0 ↦{q} estg m c : sProp 𝕄)
      ⊢ iprop((((c : Thread nD τ).loc cc0_stg2_0 ↦{q} estg m c) -∗ wpk c (k (expert1 m c b)) Q)
          -∗ wpk c (.op (.load eM (Rect.unit (s := S2x256x512) off S1x256x512.size inb).toLoadRect hl) k) Q) := by
  rw [← read_expert1 m c b ho (inb := inb)]
  exact wp_load 𝒱₀ (c : Thread nD τ) none Set.univ (m := eM) (Finset.subset_univ _)

/-- A device's histogram stored is its row of the histogram table. -/
theorem hist_write (c : Dev nD) {off : Fin 2 → ℕ} {inb} (ho : off = ![c.val, 0]) (f : Vec F S4x8 .f32) (i : S4x8.Idx) (hi : i ∈ hRows c) :
    (hM.access (Rect.unit (s := S4x8) off S1x8.size inb) : View sig .tc _ _ _).write (Elt F) f (k0_pay2 (rstg m c)) Finset.univ i = histAll m i := by
  rw [← hSl_rows (inb := inb) c ho, ← View.set_slice_whole cc0_scratch1] at hi
  obtain ⟨x, -, rfl⟩ := Finset.mem_map.mp hi
  refine (View.write_emb_of_mem (v := (hM.access (Rect.unit (s := S4x8) off S1x8.size inb) : View sig .tc _ _ _)) (h := Finset.mem_univ x) ..).trans ?_
  show k0_pay2 (rstg m c) x = histAll m _
  unfold histAll
  have h0 : (x 0).val < 1 := (x 0).isLt
  have e0 : (((Rect.unit (s := S4x8) off S1x8.size inb).emb x : S4x8.Idx) 0 : Dev nD) = c := by
    refine Fin.ext ((show _ = off 0 + 1 * (x 0).val from rfl).trans ?_)
    rw [congrFun ho 0]
    show c.val + 1 * (x 0).val = c.val
    omega
  have e1 : (((Rect.unit (s := S4x8) off S1x8.size inb).emb x : S4x8.Idx) 1 : Fin 8) = x 1 := by
    refine Fin.ext ((show _ = off 1 + 1 * (x 1).val from rfl).trans ?_)
    rw [congrFun ho 1]
    show 0 + 1 * (x 1).val = (x 1).val
    omega
  have ex0 : (x : S1x8.Idx) = ix2 (0 : Fin 1) (x 1) := by
    funext a
    fin_cases a
    · exact Fin.ext (Nat.lt_one_iff.mp h0)
    · rfl
  show _ = k0_pay2 (rstg m (((Rect.unit (s := S4x8) off S1x8.size inb).emb x : S4x8.Idx) 0 : Dev nD)) (ix2 (0 : Fin 1) (((Rect.unit (s := S4x8) off S1x8.size inb).emb x : S4x8.Idx) 1 : Fin 8))
  rw [e0, e1]
  exact congrArg _ ex0

/-! ## Offsets and targets in ring terms -/

theorem off2_c (c : Dev nD) : k0_off2 c = ![c.val, 0] := k0_off2_eq c
theorem off3_c (c : Dev nD) : k0_off3 c = ![256 * (ex c 0).val, 0] := by
  rw [k0_off3_eq]; congr 1; show 512 * c.val = 256 * (2 * c.val + 0); omega
theorem off4_c (c : Dev nD) : k0_off4 c = ![256 * (ex c 1).val, 0] := by
  rw [k0_off4_eq]; congr 1; show 512 * c.val + 256 = 256 * (2 * c.val + 1); omega
theorem off5_c (c : Dev nD) : k0_off5 c = ![(lft c).val, 0] := k0_off5_eq c
theorem off6_c (c : Dev nD) : k0_off6 c = ![256 * (ex (lft c) 0).val, 0] := by
  rw [k0_off6_eq]; congr 1; show 512 * ((c.val + 3) % 4) = 256 * (2 * ((c.val + 3) % 4) + 0); omega
theorem off7_c (c : Dev nD) : k0_off7 c = ![256 * (ex (rgt c) 1).val, 0] := by
  rw [k0_off7_eq]; congr 1; show 512 * ((c.val + 1) % 4) + 256 = 256 * (2 * ((c.val + 1) % 4) + 1); omega
theorem off8_c (c : Dev nD) : k0_off8 c = ![256 * (ex (lft c) 0).val, 0] := by
  rw [k0_off8_eq]; congr 1; show 512 * ((c.val + 3) % 4) = 256 * (2 * ((c.val + 3) % 4) + 0); omega
theorem off10_c (c : Dev nD) : k0_off10 c = ![256 * (ex (lft c) 1).val, 0] := by
  rw [k0_off10_eq]; congr 1; show 512 * ((c.val + 3) % 4) + 256 = 256 * (2 * ((c.val + 3) % 4) + 1); omega
theorem off9_r (c : Dev nD) : k0_off9 c 1#32 = ![256 * (ex (rgt c) 1).val, 0] := by
  refine (k0_off9_eq c 0).trans ?_; congr 1; show 512 * ((c.val + 0 + 1) % 4) + 256 = 256 * (2 * ((c.val + 1) % 4) + 1); omega
theorem off9_g (c : Dev nD) : k0_off9 c 2#32 = ![256 * (ex (opp c) 1).val, 0] := by
  refine (k0_off9_eq c 1).trans ?_; congr 1; show 512 * ((c.val + 1 + 1) % 4) + 256 = 256 * (2 * ((c.val + 2) % 4) + 1); omega
theorem off11_r (c : Dev nD) : k0_off11 c 1#32 = ![256 * (ex (rgt c) 0).val, 0] := by
  refine (k0_off11_eq c 0).trans ?_; congr 1; show 512 * ((c.val + 0 + 1) % 4) = 256 * (2 * ((c.val + 1) % 4) + 0); omega
theorem off11_g (c : Dev nD) : k0_off11 c 2#32 = ![256 * (ex (opp c) 0).val, 0] := by
  refine (k0_off11_eq c 1).trans ?_; congr 1; show 512 * ((c.val + 1 + 1) % 4) = 256 * (2 * ((c.val + 2) % 4) + 0); omega

/-- A copy's landing rows, named from the sender. -/
theorem land_dst (c : Dev nD) (h : Vec F S4x8 .f32) (w : Vec F S2048x512 .bf16) :
    land 0 (dst 0 c) h w = hPt (dst 0 c) c fullShare h ∧ land 1 (dst 1 c) h w = hPt (dst 1 c) c fullShare h
      ∧ land 2 (dst 2 c) h w = hPt (dst 2 c) (lft c) fullShare h
      ∧ land 3 (dst 3 c) h w = wPt (dst 3 c) (ex c 0) fullShare w ∧ land 4 (dst 4 c) h w = wPt (dst 4 c) (ex c 1) fullShare w
      ∧ land 5 (dst 5 c) h w = wPt (dst 5 c) (ex c 1) fullShare w ∧ land 6 (dst 6 c) h w = wPt (dst 6 c) (ex c 0) fullShare w
      ∧ land 7 (dst 7 c) h w = wPt (dst 7 c) (ex (lft c) 0) fullShare w ∧ land 8 (dst 8 c) h w = wPt (dst 8 c) (ex (rgt c) 1) fullShare w := by
  have a : lft (rgt c) = c := lft_rgt c
  have b : rgt (lft c) = c := rgt_lft c
  refine ⟨?_, ?_, ?_, ?_, ?_, ?_, ?_, ?_, ?_⟩
  · show hPt (rgt c) (lft (rgt c)) _ _ = hPt (rgt c) _ _ _; rw [a]
  · show hPt (lft c) (rgt (lft c)) _ _ = hPt (lft c) _ _ _; rw [b]
  · show hPt (rgt c) (opp (rgt c)) _ _ = hPt (rgt c) _ _ _; rw [opp_rgt]
  · show wPt (rgt c) (ex (lft (rgt c)) 0) _ _ = wPt (rgt c) _ _ _; rw [a]
  · show wPt (rgt c) (ex (lft (rgt c)) 1) _ _ = wPt (rgt c) _ _ _; rw [a]
  · show wPt (lft c) (ex (rgt (lft c)) 1) _ _ = wPt (lft c) _ _ _; rw [b]
  · show wPt (lft c) (ex (rgt (lft c)) 0) _ _ = wPt (lft c) _ _ _; rw [b]
  · show wPt (rgt c) (ex (opp (rgt c)) 0) _ _ = wPt (rgt c) _ _ _; rw [opp_rgt]
  · show wPt (lft c) (ex (opp (lft c)) 1) _ _ = wPt (lft c) _ _ _; rw [opp_lft]

/-! ## The parts -/

section Parts
variable (K : CIx → ℕ) (c : Dev nD) (hx : xM.IsWhole) (hr : rM.IsWhole) (he : eM.IsWhole) (ho : oM.IsWhole) (hw : wM.IsWhole) (hh : hM.IsWhole)

omit [FloatOps F] in
theorem devEq1 : (⟨k0_dev1 c, k0_dev1_lt c⟩ : Dev nD) = lft c := Fin.ext (k0_dev1_eq c)
omit [FloatOps F] in
theorem devEq2 : (⟨k0_dev2 c, k0_dev2_lt c⟩ : Dev nD) = rgt c := Fin.ext (k0_dev2_eq c)

/-- Part 1: both neighbours' barriers are raised, the histogram row is written, the barrier is passed. -/
theorem part1 (f : Vec F S4x8 .f32) {Q : _ → sProp 𝕄} :
    iprop(known m K ∗ dutyTok EX (barCell (lft c)) 0 true ∗ barPay (F := F) (lft c) true ∗ dutyTok EX (barCell (rgt c)) 0 false ∗ barPay (F := F) (rgt c) false
        ∗ cred (tallyAt (barCell c) () 2) ∗ atPos EX (barCell c) 0 ∅ 0 ∗ debt c (owes0 c)
        ∗ ((c : Thread nD τ).loc cc0_stg1_0 ↦{fullShare} rstg m c) ∗ hPt c c fullShare f)
      ⊢ iprop(((barPay (F := F) c false ∗ barPay (F := F) c true ∗ semVal (barCell c) 0 ∗ debt c (owed c [0, 1, 3, 5, 2, 4, 6, 7, 8])
            ∗ ((c : Thread nD τ).loc cc0_stg1_0 ↦{fullShare} rstg m c) ∗ hPt c c fullShare (histAll m))
          -∗ Q ⟨c, w2 c, w5 c, w7 c, w9 c, lanes, k0_pay1 (rstg m c), Scalar.muli (w2 c) 2#32⟩)
          -∗ wpk c (k0_part1 (F := F) xM hx rM hr eM he oM ho wM hw hM hh cc0_scratch2 cc0_scratch3 cc0_scratch4 cc0_scratch5) Q) := by
  rw [k0_part1_eq_skeleton]
  unfold k0_part1_skel lanes w9 w7 w5 w2
  simp only [semSignalWord, semWaitWord, Prog.lift, Prog.bind_op, Prog.bind_ret, Prog.pure_eq_ret, wp_deviceId]
  rw [devEq1, devEq2]
  iintro ⟨#HK, T1, P1, T2, P2, Hc, Hat, HO, Hr, Hh⟩ Hk
  unfold owes0 owes1
  iapply (wp_raise m K c (lft c) true (owed c order + tallyAt (barCell (rgt c)) () 1)) $$ [T1 P1 HO]
  · isplitr; · iexact HK
    isplitl [T1]; · iexact T1
    isplitl [P1]; · iexact P1
    iexact HO
  iintro HO
  iapply (wp_raise m K c (rgt c) false (owed c order)) $$ [T2 P2 HO]
  · isplitr; · iexact HK
    isplitl [T2]; · iexact T2
    isplitl [P2]; · iexact P2
    iexact HO
  iintro HO
  iapply (wp_load 𝒱₀ (c : Thread nD τ) none Set.univ (m := rM) (Finset.subset_univ _)) $$ Hr; iintro Hr
  rw [show rM.view.readAt (Elt F) (Rect.unit (s := S512x1) ![0, 0] S512x1.size inb_S512x1_S512x1_0_0).toLoadRect (rstg m c) = rstg m c from
    Memref.readAt_unit_zero (Elt F) cc0_stg1_0 zero2 _ _]
  unfold hPt
  have hsub : ∀ inb, (Rect.unit (s := S4x8) (k0_off1 c) S1x8.size inb).set = hRows c := fun inb => hSl_rows c (k0_off1_eq c)
  iapply (wp_load 𝒱₀ (c : Thread nD τ) none Set.univ (m := hM) (S := hRows c) (by
    rw [← hsub (k0_off1_inb c)]
    show Finset.map (Function.Embedding.refl _) _ ⊆ _
    rw [Finset.map_refl])) $$ Hh; iintro Hh
  iapply (wp_store 𝒱₀ (c : Thread nD τ) none Set.univ (m := hM) (S := hRows c) (r := Rect.unit (s := S4x8) (k0_off1 c) S1x8.size (k0_off1_inb c)) (Mk := Finset.univ) (by
    rw [← hsub (k0_off1_inb c), View.setOn_univ]
    exact (View.set_slice_whole cc0_scratch1 (Rect.unit (s := S4x8) (k0_off1 c) S1x8.size (k0_off1_inb c))).subset)) $$ Hh; iintro Hh
  ihave Hh := (Entails.of_eq (pointsTo_congr (fun i hi => hist_write m c (k0_off1_eq c) f i hi))) $$ Hh
  iapply (wp_pass m K c order (by decide)) $$ [Hc Hat HO]
  · isplitr; · iexact HK
    isplitl [Hc]; · iexact Hc
    isplitl [Hat]; · iexact Hat
    iexact HO
  iintro ⟨P1, P2, Hz, HO⟩
  unfold wpk; rw [wp_ret]; imodintro
  iapply Hk
  isplitl [P1]; · iexact P1
  isplitl [P2]; · iexact P2
  isplitl [Hz]; · iexact Hz
  isplitl [HO]; · iexact HO
  isplitl [Hr]; · iexact Hr
  iexact Hh

/-- Part 2: both histogram copies and the first expert's copy to the right start. -/
theorem part2 (v5 v7 v30 : BitVec 32) {Q : _ → sProp 𝕄} :
    iprop(known m K ∗ ready m 0 c ∗ ready m 1 c ∗ ready m 3 c ∗ debt c (owed c [0, 1, 3, 5, 2, 4, 6, 7, 8]))
      ⊢ iprop(((sendCred 0 c ∗ sendCred 1 c ∗ sendCred 3 c ∗ debt c (owed c [5, 2, 4, 6, 7, 8])) -∗ Q ⟨⟩)
          -∗ wpk c (k0_part2 (F := F) xM hx rM hr eM he oM ho wM hw hM hh cc0_scratch2 cc0_scratch3 cc0_scratch4 cc0_scratch5 c v5 v7 v30) Q) := by
  rw [k0_part2_eq_skeleton]
  unfold k0_part2_skel
  simp only [semSignalWord, semWaitWord, Prog.lift, Prog.bind_op, Prog.bind_ret, Prog.pure_eq_ret, wp_deviceId]
  iintro ⟨#HK, R0, R1, R3, HO⟩ Hk
  iapply (wp_copy_h m K c _ 0 c fullShare.right.left (Fin.ext (k0_dev3_eq c)) rfl (fun h w => (land_dst c h w).1) (off2_c c) (off2_c c) rfl rfl [1, 3, 5, 2, 4, 6, 7, 8] rfl) $$ [R0 HO]
  · isplitr; · iexact HK
    isplitl [R0]; · iexact R0
    iexact HO
  iintro ⟨S0, HO⟩
  iapply (wp_copy_h m K c _ 1 c fullShare.right.right (Fin.ext (k0_dev4_eq c)) rfl (fun h w => (land_dst c h w).2.1) (off2_c c) (off2_c c) rfl rfl [3, 5, 2, 4, 6, 7, 8] rfl) $$ [R1 HO]
  · isplitr; · iexact HK
    isplitl [R1]; · iexact R1
    iexact HO
  iintro ⟨S1, HO⟩
  iapply (wp_copy_e m K c _ 3 0 fullShare.right.left (Fin.ext (k0_dev5_eq c)) rfl (fun h w => (land_dst c h w).2.2.2.1) (rfl) (off3_c c) rfl rfl [5, 2, 4, 6, 7, 8] rfl) $$ [R3 HO]
  · isplitr; · iexact HK
    isplitl [R3]; · iexact R3
    iexact HO
  iintro ⟨S3, HO⟩
  unfold wpk; rw [wp_ret]; imodintro
  iapply Hk
  isplitl [S0]; · iexact S0
  isplitl [S1]; · iexact S1
  isplitl [S3]; · iexact S3
  iexact HO

/-- Part 3: the second expert's copy to the left starts; the left neighbour's histogram arrives and is sent on. -/
theorem part3 (v2 v7 : BitVec 32) (v21 : FVec F S512x8 .f32) {Q : _ → sProp 𝕄} :
    iprop(known m K ∗ ready m 5 c ∗ recvKey 0 c ∗ free (F := F) 2 (dst 2 c) ∗ copyTok 2 c ∗ debt c (owed c [5, 2, 4, 6, 7, 8]))
      ⊢ iprop(((sendCred 5 c ∗ sendCred 2 c ∗ hPt c (lft c) fullShare.left (histAll m) ∗ semVal (recvCell 0 c) 0 ∗ debt c (owed c [4, 6, 7, 8])) -∗ Q (k0_pay3 v21))
          -∗ wpk c (k0_part3 (F := F) xM hx rM hr eM he oM ho wM hw hM hh cc0_scratch2 cc0_scratch3 cc0_scratch4 cc0_scratch5 c v2 v7 v21) Q) := by
  rw [k0_part3_eq_skeleton]
  unfold k0_part3_skel
  simp only [semSignalWord, semWaitWord, Prog.lift, Prog.bind_op, Prog.bind_ret, Prog.pure_eq_ret, wp_deviceId]
  iintro ⟨#HK, R5, K0, F2, T2, HO⟩ Hk
  iapply (wp_copy_e m K c _ 5 1 fullShare.right.left (Fin.ext (k0_dev6_eq c)) rfl (fun h w => (land_dst c h w).2.2.2.2.2.1) (rfl) (off4_c c) rfl rfl [2, 4, 6, 7, 8] rfl) $$ [R5 HO]
  · isplitr; · iexact HK
    isplitl [R5]; · iexact R5
    iexact HO
  iintro ⟨S5, HO⟩
  iapply (wp_recvd m K c 0 rfl (by rfl) [2, 4, 6, 7, 8] (by decide)) $$ [K0 HO]
  · isplitr; · iexact HK
    isplitl [K0]; · iexact K0
    iexact HO
  iintro ⟨L0, Z0, HO⟩
  unfold landed
  ihave L0 := (show (land 0 c (histAll m) (wAll m) : sProp 𝕄) ⊢ iprop(hPt c (lft c) fullShare.left (histAll m) ∗ hPt c (lft c) fullShare.right (histAll m)) from hPt_halves c (lft c) (histAll m)) $$ L0
  icases L0 with ⟨L0, R0⟩
  ihave R2 := (show iprop(hPt c (lft c) fullShare.right (histAll m) ∗ free (F := F) 2 (dst 2 c) ∗ copyTok 2 c) ⊢ ready m 2 c from .rfl) $$ [R0 F2 T2]
  · isplitl [R0]; · iexact R0
    isplitl [F2]; · iexact F2
    iexact T2
  iapply (wp_copy_h m K c _ 2 (lft c) fullShare.right (Fin.ext (k0_dev7_eq c)) rfl (fun h w => (land_dst c h w).2.2.1) (off5_c c) (off5_c c) rfl rfl [4, 6, 7, 8] rfl) $$ [R2 HO]
  · isplitr; · iexact HK
    isplitl [R2]; · iexact R2
    iexact HO
  iintro ⟨S2, HO⟩
  unfold wpk; rw [wp_ret]; imodintro
  iapply Hk
  isplitl [S5]; · iexact S5
  isplitl [S2]; · iexact S2
  isplitl [L0]; · iexact L0
  isplitl [Z0]; · iexact Z0
  iexact HO

/-- Part 4: the remaining two copies of the own experts start; the other two histograms arrive. -/
theorem part4 (v5 v7 : BitVec 32) {Q : _ → sProp 𝕄} :
    iprop(known m K ∗ ready m 4 c ∗ ready m 6 c ∗ recvKey 1 c ∗ recvKey 2 c ∗ debt c (owed c [4, 6, 7, 8]))
      ⊢ iprop(((sendCred 4 c ∗ sendCred 6 c ∗ landed m 1 c ∗ semVal (recvCell 1 c) 0 ∗ landed m 2 c ∗ semVal (recvCell 2 c) 0 ∗ debt c (owed c [7, 8])) -∗ Q ⟨⟩)
          -∗ wpk c (k0_part4 (F := F) xM hx rM hr eM he oM ho wM hw hM hh cc0_scratch2 cc0_scratch3 cc0_scratch4 cc0_scratch5 c v5 v7) Q) := by
  rw [k0_part4_eq_skeleton]
  unfold k0_part4_skel
  simp only [semSignalWord, semWaitWord, Prog.lift, Prog.bind_op, Prog.bind_ret, Prog.pure_eq_ret, wp_deviceId]
  iintro ⟨#HK, R4, R6, K1, K2, HO⟩ Hk
  iapply (wp_copy_e m K c _ 4 1 fullShare.right.right (Fin.ext (k0_dev8_eq c)) rfl (fun h w => (land_dst c h w).2.2.2.2.1) (rfl) (off4_c c) rfl rfl [6, 7, 8] rfl) $$ [R4 HO]
  · isplitr; · iexact HK
    isplitl [R4]; · iexact R4
    iexact HO
  iintro ⟨S4, HO⟩
  iapply (wp_copy_e m K c _ 6 0 fullShare.right.right (Fin.ext (k0_dev9_eq c)) rfl (fun h w => (land_dst c h w).2.2.2.2.2.2.1) (rfl) (off3_c c) rfl rfl [7, 8] rfl) $$ [R6 HO]
  · isplitr; · iexact HK
    isplitl [R6]; · iexact R6
    iexact HO
  iintro ⟨S6, HO⟩
  iapply (wp_recvd m K c 1 rfl (by rfl) [7, 8] (by decide)) $$ [K1 HO]
  · isplitr; · iexact HK
    isplitl [K1]; · iexact K1
    iexact HO
  iintro ⟨L1, Z1, HO⟩
  iapply (wp_recvd m K c 2 rfl (by rfl) [7, 8] (by decide)) $$ [K2 HO]
  · isplitr; · iexact HK
    isplitl [K2]; · iexact K2
    iexact HO
  iintro ⟨L2, Z2, HO⟩
  unfold wpk; rw [wp_ret]; imodintro
  iapply Hk
  isplitl [S4]; · iexact S4
  isplitl [S6]; · iexact S6
  isplitl [L1]; · iexact L1
  isplitl [Z1]; · iexact Z1
  isplitl [L2]; · iexact L2
  isplitl [Z2]; · iexact Z2
  iexact HO

/-- Part 5: the histogram table and the rows are read; the left neighbour's first expert arrives. -/
theorem part5 (v2 v5 v7 : BitVec 32) (v21 v74 : FVec F S512x8 .f32) {Q : _ → sProp 𝕄} :
    iprop(known m K ∗ ((c : Thread nD τ).loc cc0_scratch1 ↦{fullShare.left} histAll m) ∗ ((c : Thread nD τ).loc cc0_stg0_0 ↦{fullShare} xstg m c) ∗ recvKey 3 c ∗ debt c (owed c [7, 8]))
      ⊢ iprop(((((c : Thread nD τ).loc cc0_scratch1 ↦{fullShare.left} histAll m) ∗ ((c : Thread nD τ).loc cc0_stg0_0 ↦{fullShare} xstg m c) ∗ landed m 3 c ∗ semVal (recvCell 3 c) 0 ∗ debt c (owed c [7, 8])) -∗ Q ⟨k0_pay4 v2 v21 v74 (histAll m), k0_pay5 (xstg m c)⟩)
          -∗ wpk c (k0_part5 (F := F) xM hx rM hr eM he oM ho wM hw hM hh cc0_scratch2 cc0_scratch3 cc0_scratch4 cc0_scratch5 c v2 v5 v7 v21 v74) Q) := by
  rw [k0_part5_eq_skeleton]
  unfold k0_part5_skel
  simp only [semSignalWord, semWaitWord, Prog.lift, Prog.bind_op, Prog.bind_ret, Prog.pure_eq_ret, wp_deviceId]
  iintro ⟨#HK, Hh, Hx, K3, HO⟩ Hk
  iapply (wp_load 𝒱₀ (c : Thread nD τ) none Set.univ (m := hM) (Finset.subset_univ _)) $$ Hh; iintro Hh
  rw [show hM.view.readAt (Elt F) (Rect.unit (s := S4x8) ![0, 0] S4x8.size inb_S4x8_S4x8_0_0).toLoadRect (histAll m) = histAll m from
    Memref.readAt_unit_zero (Elt F) cc0_scratch1 zero2 _ _]
  iapply (wp_load 𝒱₀ (c : Thread nD τ) none Set.univ (m := xM) (Finset.subset_univ _)) $$ Hx; iintro Hx
  rw [show xM.view.readAt (Elt F) (Rect.unit (s := S512x256) ![0, 0] S512x256.size inb_S512x256_S512x256_0_0).toLoadRect (xstg m c) = xstg m c from
    Memref.readAt_unit_zero (Elt F) cc0_stg0_0 zero2 _ _]
  iapply (wp_recvd m K c 3 rfl (by rfl) [7, 8] (by decide)) $$ [K3 HO]
  · isplitr; · iexact HK
    isplitl [K3]; · iexact K3
    iexact HO
  iintro ⟨L3, Z3, HO⟩
  unfold wpk; rw [wp_ret]; imodintro
  iapply Hk
  isplitl [Hh]; · iexact Hh
  isplitl [Hx]; · iexact Hx
  isplitl [L3]; · iexact L3
  isplitl [Z3]; · iexact Z3
  iexact HO

/-- Part 6: the left neighbour's first expert is sent on; the right neighbour's second arrives and is sent on. -/
theorem part6 (v2 v5 v7 : BitVec 32) (v17 : IVec S512x8 32) (v139 : FVec F S512x8 .f32) (v141 : FVec F S512x256 .bf16) {Q : _ → sProp 𝕄} :
    iprop(known m K ∗ ready m 7 c ∗ recvKey 5 c ∗ free (F := F) 8 (dst 8 c) ∗ copyTok 8 c ∗ debt c (owed c [7, 8]))
      ⊢ iprop(((sendCred 7 c ∗ sendCred 8 c ∗ wPt c (ex (rgt c) 1) fullShare.left (wAll m) ∗ semVal (recvCell 5 c) 0 ∗ debt c (owed c [])) -∗ Q ⟨k0_pay6 (F := F), k0_pay7 v2 v17 v139 v141⟩)
          -∗ wpk c (k0_part6 (F := F) xM hx rM hr eM he oM ho wM hw hM hh cc0_scratch2 cc0_scratch3 cc0_scratch4 cc0_scratch5 c v2 v5 v7 v17 v139 v141) Q) := by
  rw [k0_part6_eq_skeleton]
  unfold k0_part6_skel
  simp only [semSignalWord, semWaitWord, Prog.lift, Prog.bind_op, Prog.bind_ret, Prog.pure_eq_ret, wp_deviceId]
  iintro ⟨#HK, R7, K5, F8, T8, HO⟩ Hk
  iapply (wp_copy_w m K c _ 7 (ex (lft c) 0) fullShare.right (Fin.ext (k0_dev10_eq c)) rfl (fun h w => (land_dst c h w).2.2.2.2.2.2.2.1) (off6_c c) (off6_c c) rfl rfl [8] rfl) $$ [R7 HO]
  · isplitr; · iexact HK
    isplitl [R7]; · iexact R7
    iexact HO
  iintro ⟨S7, HO⟩
  iapply (wp_recvd m K c 5 rfl (by rfl) [8] (by decide)) $$ [K5 HO]
  · isplitr; · iexact HK
    isplitl [K5]; · iexact K5
    iexact HO
  iintro ⟨L5, Z5, HO⟩
  unfold landed
  ihave L5 := (show (land 5 c (histAll m) (wAll m) : sProp 𝕄) ⊢ iprop(wPt c (ex (rgt c) 1) fullShare.left (wAll m) ∗ wPt c (ex (rgt c) 1) fullShare.right (wAll m)) from wPt_halves c (ex (rgt c) 1) (wAll m)) $$ L5
  icases L5 with ⟨L5, R5⟩
  ihave R8 := (show iprop(wPt c (ex (rgt c) 1) fullShare.right (wAll m) ∗ free (F := F) 8 (dst 8 c) ∗ copyTok 8 c) ⊢ ready m 8 c from .rfl) $$ [R5 F8 T8]
  · isplitl [R5]; · iexact R5
    isplitl [F8]; · iexact F8
    iexact T8
  iapply (wp_copy_w m K c _ 8 (ex (rgt c) 1) fullShare.right (Fin.ext (k0_dev11_eq c)) rfl (fun h w => (land_dst c h w).2.2.2.2.2.2.2.2) (off7_c c) (off7_c c) rfl rfl [] rfl) $$ [R8 HO]
  · isplitr; · iexact HK
    isplitl [R8]; · iexact R8
    iexact HO
  iintro ⟨S8, HO⟩
  unfold wpk; rw [wp_ret]; imodintro
  iapply Hk
  isplitl [S7]; · iexact S7
  isplitl [S8]; · iexact S8
  isplitl [L5]; · iexact L5
  isplitl [Z5]; · iexact Z5
  iexact HO

/-- Part 7: the own experts and the left neighbour's first are read. -/
theorem part7 (v2 v5 v7 : BitVec 32) (v17 : IVec S512x8 32) (v139 : FVec F S512x8 .f32) (v141 : FVec F S512x256 .bf16) (v182 : FVec F S512x512 .f32) (v193 : FVec F S512x256 .bf16) {Q : _ → sProp 𝕄} :
    iprop(known m K ∗ ((c : Thread nD τ).loc cc0_stg2_0 ↦{fullShare.left} estg m c) ∗ wPt c (ex (lft c) 0) fullShare.left (wAll m))
      ⊢ iprop(((((c : Thread nD τ).loc cc0_stg2_0 ↦{fullShare.left} estg m c) ∗ wPt c (ex (lft c) 0) fullShare.left (wAll m)) -∗ Q ⟨k0_pay8 v2 v5 v17 v139 v141 v182 v193 (expert1 m c 0) (expert1 m c 1) (expert m (lft c) 0), Scalar.addi (Scalar.muli v7 2#32) 1#32⟩)
          -∗ wpk c (k0_part7 (F := F) xM hx rM hr eM he oM ho wM hw hM hh cc0_scratch2 cc0_scratch3 cc0_scratch4 cc0_scratch5 c v2 v5 v7 v17 v139 v141 v182 v193) Q) := by
  rw [k0_part7_eq_skeleton]
  unfold k0_part7_skel
  simp only [semSignalWord, semWaitWord, Prog.lift, Prog.bind_op, Prog.bind_ret, Prog.pure_eq_ret, wp_deviceId]
  iintro ⟨#HK, He, W3⟩ Hk
  iapply (wp_load_e m c 0 fullShare.left rfl) $$ He
  iintro He
  iapply (wp_load_e m c 1 fullShare.left rfl) $$ He
  iintro He
  iapply (wp_load_w m c (lft c) 0 fullShare.left (off8_c c)) $$ W3
  iintro W3
  unfold wpk; rw [wp_ret]; imodintro
  iapply Hk
  isplitl [He]; · iexact He
  iexact W3

/-- Part 8: the right neighbour's second expert is read; the left neighbour's second arrives and is read. -/
theorem part8 (v5 v7 : BitVec 32) (v17 : IVec S512x8 32) (v139 : FVec F S512x8 .f32) (v141 : FVec F S512x256 .bf16) (v229 : FVec F S512x512 .f32) (v231 : BitVec 32) {Q : _ → sProp 𝕄} :
    iprop(known m K ∗ wPt c (ex (rgt c) 1) fullShare.left (wAll m) ∗ recvKey 4 c ∗ debt c (owed c []))
      ⊢ iprop(((wPt c (ex (rgt c) 1) fullShare.left (wAll m) ∗ wPt c (ex (lft c) 1) fullShare (wAll m) ∗ semVal (recvCell 4 c) 0 ∗ debt c (owed c [])) -∗ Q ⟨k0_pay9 v5 v17 v139 v141 v229 v231 (expert m (rgt c) 1) (expert m (lft c) 1), Scalar.muli v5 1#32, 0#32⟩)
          -∗ wpk c (k0_part8 (F := F) xM hx rM hr eM he oM ho wM hw hM hh cc0_scratch2 cc0_scratch3 cc0_scratch4 cc0_scratch5 c v5 v7 v17 v139 v141 v229 v231) Q) := by
  rw [k0_part8_eq_skeleton]
  unfold k0_part8_skel
  simp only [semSignalWord, semWaitWord, Prog.lift, Prog.bind_op, Prog.bind_ret, Prog.pure_eq_ret, wp_deviceId]
  iintro ⟨#HK, W5, K4, HO⟩ Hk
  iapply (wp_load_w m c (rgt c) 1 fullShare.left (off9_r c)) $$ W5
  iintro W5
  iapply (wp_recvd m K c 4 rfl (by rfl) [] (by decide)) $$ [K4 HO]
  · isplitr; · iexact HK
    isplitl [K4]; · iexact K4
    iexact HO
  iintro ⟨L4, Z4, HO⟩
  ihave L4 := (show landed m 4 c ⊢ wPt c (ex (lft c) 1) fullShare (wAll m) from .rfl) $$ L4
  iapply (wp_load_w m c (lft c) 1 fullShare (off10_c c)) $$ L4
  iintro L4
  unfold wpk; rw [wp_ret]; imodintro
  iapply Hk
  isplitl [W5]; · iexact W5
  isplitl [L4]; · iexact L4
  isplitl [Z4]; · iexact Z4
  iexact HO

/-- Part 9: the right neighbour's first expert and the opposite device's first arrive and are read. -/
theorem part9 (v7 v9 : BitVec 32) (v17 : IVec S512x8 32) (v139 : FVec F S512x8 .f32) (v141 : FVec F S512x256 .bf16) (v270 : FVec F S512x512 .f32) (v271 z : BitVec 32) {Q : _ → sProp 𝕄} :
    iprop(known m K ∗ recvKey 6 c ∗ recvKey 7 c ∗ debt c (owed c []))
      ⊢ iprop(((wPt c (ex (rgt c) 0) fullShare (wAll m) ∗ semVal (recvCell 6 c) 0 ∗ wPt c (ex (opp c) 0) fullShare (wAll m) ∗ semVal (recvCell 7 c) 0 ∗ debt c (owed c [])) -∗ Q ⟨k0_pay10 v7 v17 v139 v141 v270 (expert m (rgt c) 0), expert m (opp c) 0, k0_pay11 v9 v17 v139⟩)
          -∗ wpk c (k0_part9 (F := F) xM hx rM hr eM he oM ho wM hw hM hh cc0_scratch2 cc0_scratch3 cc0_scratch4 cc0_scratch5 c v7 v9 v17 v139 v141 v270 v271 z) Q) := by
  rw [k0_part9_eq_skeleton]
  unfold k0_part9_skel
  simp only [semSignalWord, semWaitWord, Prog.lift, Prog.bind_op, Prog.bind_ret, Prog.pure_eq_ret, wp_deviceId]
  iintro ⟨#HK, K6, K7, HO⟩ Hk
  iapply (wp_recvd m K c 6 rfl (by rfl) [] (by decide)) $$ [K6 HO]
  · isplitr; · iexact HK
    isplitl [K6]; · iexact K6
    iexact HO
  iintro ⟨L6, Z6, HO⟩
  ihave L6 := (show landed m 6 c ⊢ wPt c (ex (rgt c) 0) fullShare (wAll m) from .rfl) $$ L6
  iapply (wp_load_w m c (rgt c) 0 fullShare (off11_r c)) $$ L6
  iintro L6
  iapply (wp_recvd m K c 7 rfl (by rfl) [] (by decide)) $$ [K7 HO]
  · isplitr; · iexact HK
    isplitl [K7]; · iexact K7
    iexact HO
  iintro ⟨L7, Z7, HO⟩
  ihave L7 := (show landed m 7 c ⊢ wPt c (ex (opp c) 0) fullShare (wAll m) from .rfl) $$ L7
  iapply (wp_load_w m c (opp c) 0 fullShare (off11_g c)) $$ L7
  iintro L7
  unfold wpk; rw [wp_ret]; imodintro
  iapply Hk
  isplitl [L6]; · iexact L6
  isplitl [Z6]; · iexact Z6
  isplitl [L7]; · iexact L7
  isplitl [Z7]; · iexact Z7
  iexact HO

/-- Part 10: the last expert arrives and is read, the result is written, the first send is waited out. -/
theorem part10 (f : Vec F S512x512 .f32) (v5 v9 : BitVec 32) (v17 : IVec S512x8 32) (v139 : FVec F S512x8 .f32) (v141 : FVec F S512x256 .bf16) (v293 : FVec F S512x512 .f32) (v303 : Vec F S256x512 .bf16) (v311 : FVec F S512x1 .bf16) {Q : _ → sProp 𝕄} :
    iprop(known m K ∗ recvKey 8 c ∗ ((c : Thread nD τ).loc cc0_stg3_0 ↦{fullShare} f) ∗ sendCred 0 c ∗ sendAt 0 c ∗ debt c (owed c []))
      ⊢ iprop(((wPt c (ex (opp c) 1) fullShare (wAll m) ∗ semVal (recvCell 8 c) 0 ∗ ((c : Thread nD τ).loc cc0_stg3_0 ↦{fullShare} k0_pay12 v9 v17 v139 v141 v293 v303 v311 (expert m (opp c) 1)) ∗ lent m 0 c ∗ semVal (sendCell 0 c) 0 ∗ debt c (owed c [])) -∗ Q ⟨⟩)
          -∗ wpk c (k0_part10 (F := F) xM hx rM hr eM he oM ho wM hw hM hh cc0_scratch2 cc0_scratch3 cc0_scratch4 cc0_scratch5 c v5 v9 v17 v139 v141 v293 v303 v311) Q) := by
  rw [k0_part10_eq_skeleton]
  unfold k0_part10_skel
  simp only [semSignalWord, semWaitWord, Prog.lift, Prog.bind_op, Prog.bind_ret, Prog.pure_eq_ret, wp_deviceId]
  iintro ⟨#HK, K8, Ho, S0, A0, HO⟩ Hk
  iapply (wp_recvd m K c 8 rfl (by rfl) [] (by decide)) $$ [K8 HO]
  · isplitr; · iexact HK
    isplitl [K8]; · iexact K8
    iexact HO
  iintro ⟨L8, Z8, HO⟩
  ihave L8 := (show landed m 8 c ⊢ wPt c (ex (opp c) 1) fullShare (wAll m) from .rfl) $$ L8
  iapply (wp_load_w m c (opp c) 1 fullShare (off9_g c)) $$ L8
  iintro L8
  iapply (wp_load 𝒱₀ (c : Thread nD τ) none Set.univ (m := oM) (Finset.subset_univ _)) $$ Ho; iintro Ho
  iapply (wp_store 𝒱₀ (c : Thread nD τ) none Set.univ (m := oM) (r := Rect.unit (s := S512x512) ![0, 0] S512x512.size inb_S512x512_S512x512_0_0) (Mk := Finset.univ) (Finset.subset_univ _)) $$ Ho; iintro Ho
  rw [show ∀ w, (oM.access (Rect.unit (s := S512x512) ![0, 0] S512x512.size inb_S512x512_S512x512_0_0) : View sig .tc _ _ _).write (Elt F) f w Finset.univ = w from
    fun w => Memref.write_access_unit_zero_univ (Elt F) cc0_stg3_0 zero2 _ f w]
  iapply (wp_sent m K c 0 rfl (by rfl)) $$ [S0 A0 HO]
  · isplitr; · iexact HK
    isplitl [S0]; · iexact S0
    isplitl [A0]; · iexact A0
    iexact HO
  iintro ⟨B0, Y0, HO⟩
  unfold wpk; rw [wp_ret]; imodintro
  iapply Hk
  isplitl [L8]; · iexact L8
  isplitl [Z8]; · iexact Z8
  isplitl [Ho]; · iexact Ho
  isplitl [B0]; · iexact B0
  isplitl [Y0]; · iexact Y0
  iexact HO

/-- Part 11: five more sends are waited out. -/
theorem part11 {Q : _ → sProp 𝕄} :
    iprop(known m K ∗ sendCred 1 c ∗ sendAt 1 c ∗ sendCred 2 c ∗ sendAt 2 c ∗ sendCred 3 c ∗ sendAt 3 c ∗ sendCred 4 c ∗ sendAt 4 c ∗ sendCred 5 c ∗ sendAt 5 c ∗ debt c (owed c []))
      ⊢ iprop(((lent m 1 c ∗ semVal (sendCell 1 c) 0 ∗ lent m 2 c ∗ semVal (sendCell 2 c) 0 ∗ lent m 3 c ∗ semVal (sendCell 3 c) 0 ∗ lent m 4 c ∗ semVal (sendCell 4 c) 0 ∗ lent m 5 c ∗ semVal (sendCell 5 c) 0 ∗ debt c (owed c [])) -∗ Q ⟨⟩)
          -∗ wpk c (k0_part11 (F := F) xM hx rM hr eM he oM ho wM hw hM hh cc0_scratch2 cc0_scratch3 cc0_scratch4 cc0_scratch5 c) Q) := by
  rw [k0_part11_eq_skeleton]
  unfold k0_part11_skel
  simp only [semSignalWord, semWaitWord, Prog.lift, Prog.bind_op, Prog.bind_ret, Prog.pure_eq_ret, wp_deviceId]
  iintro ⟨#HK, S1, A1, S2, A2, S3, A3, S4, A4, S5, A5, HO⟩ Hk
  iapply (wp_sent m K c 1 rfl (by rfl)) $$ [S1 A1 HO]
  · isplitr; · iexact HK
    isplitl [S1]; · iexact S1
    isplitl [A1]; · iexact A1
    iexact HO
  iintro ⟨B1, Y1, HO⟩
  iapply (wp_sent m K c 2 rfl (by rfl)) $$ [S2 A2 HO]
  · isplitr; · iexact HK
    isplitl [S2]; · iexact S2
    isplitl [A2]; · iexact A2
    iexact HO
  iintro ⟨B2, Y2, HO⟩
  iapply (wp_sent m K c 3 rfl (by rfl)) $$ [S3 A3 HO]
  · isplitr; · iexact HK
    isplitl [S3]; · iexact S3
    isplitl [A3]; · iexact A3
    iexact HO
  iintro ⟨B3, Y3, HO⟩
  iapply (wp_sent m K c 4 rfl (by rfl)) $$ [S4 A4 HO]
  · isplitr; · iexact HK
    isplitl [S4]; · iexact S4
    isplitl [A4]; · iexact A4
    iexact HO
  iintro ⟨B4, Y4, HO⟩
  iapply (wp_sent m K c 5 rfl (by rfl)) $$ [S5 A5 HO]
  · isplitr; · iexact HK
    isplitl [S5]; · iexact S5
    isplitl [A5]; · iexact A5
    iexact HO
  iintro ⟨B5, Y5, HO⟩
  unfold wpk; rw [wp_ret]; imodintro
  iapply Hk
  isplitl [B1]; · iexact B1
  isplitl [Y1]; · iexact Y1
  isplitl [B2]; · iexact B2
  isplitl [Y2]; · iexact Y2
  isplitl [B3]; · iexact B3
  isplitl [Y3]; · iexact Y3
  isplitl [B4]; · iexact B4
  isplitl [Y4]; · iexact Y4
  isplitl [B5]; · iexact B5
  isplitl [Y5]; · iexact Y5
  iexact HO

end Parts

end Cert.KernelIdeal.Moe

end
-- ==== Proof.Body.lean ====
/-
The whole body of the kernel on one device: from its windows, its scratch tables and its records to the finished rows,
the scratch tables given back and every semaphore at zero.
-/
module

public import proofs.«01_k».proof.Proof.Parts

@[expose] public section

set_option maxRecDepth 16384

noncomputable section

namespace Cert.KernelIdeal.Moe

open Cert.KernelIdeal Cert.KernelIdeal.Gen
open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables, block by block -/

theorem hRows_cover : (Finset.univ : Finset S4x8.Idx) = (Finset.univ : Finset (Dev nD)).biUnion hRows := by
  ext i
  simp only [Finset.mem_univ, Finset.mem_biUnion, true_and, true_iff]
  exact ⟨(i 0 : Dev nD), mem_hRows.mpr rfl⟩
theorem hRows_disjoint : ∀ d ∈ (Finset.univ : Finset (Dev nD)), ∀ d' ∈ (Finset.univ : Finset (Dev nD)), d ≠ d' → Disjoint (hRows d) (hRows d') := fun d _ d' _ hne =>
  Finset.disjoint_left.mpr fun i hi hi' => hne (Fin.ext ((mem_hRows.mp hi).symm.trans (mem_hRows.mp hi')))
theorem wRows_cover : (Finset.univ : Finset S2048x512.Idx) = (Finset.univ : Finset (Fin 8)).biUnion wRows := by
  ext i
  simp only [Finset.mem_univ, Finset.mem_biUnion, true_and, true_iff]
  exact ⟨⟨(i 0).val / 256, Nat.div_lt_of_lt_mul (i 0).isLt⟩, mem_wRows.mpr rfl⟩
theorem wRows_disjoint : ∀ d ∈ (Finset.univ : Finset (Fin 8)), ∀ d' ∈ (Finset.univ : Finset (Fin 8)), d ≠ d' → Disjoint (wRows d) (wRows d') := fun d _ d' _ hne =>
  Finset.disjoint_left.mpr fun i hi hi' => hne (Fin.ext ((mem_wRows.mp hi).symm.trans (mem_wRows.mp hi')))
theorem eSlab_cover : (Finset.univ : Finset S2x256x512.Idx) = (Finset.univ : Finset (Fin 2)).biUnion eSlab := by
  ext i
  simp only [Finset.mem_univ, Finset.mem_biUnion, true_and, true_iff]
  exact ⟨(i 0 : Fin 2), mem_eSlab.mpr rfl⟩
theorem eSlab_disjoint : ∀ d ∈ (Finset.univ : Finset (Fin 2)), ∀ d' ∈ (Finset.univ : Finset (Fin 2)), d ≠ d' → Disjoint (eSlab d) (eSlab d') := fun d _ d' _ hne =>
  Finset.disjoint_left.mpr fun i hi hi' => hne (Fin.ext ((mem_eSlab.mp hi).symm.trans (mem_eSlab.mp hi')))

theorem ring_complete : ∀ c : Dev nD, (Finset.univ : Finset (Dev nD)) = [c, lft c, rgt c, opp c].toFinset := by decide
theorem ring_nodup : ∀ c : Dev nD, [c, lft c, rgt c, opp c].Nodup := by decide
theorem experts_complete : ∀ c : Dev nD, (Finset.univ : Finset (Fin 8))
    = [ex c 0, ex c 1, ex (lft c) 0, ex (lft c) 1, ex (rgt c) 0, ex (rgt c) 1, ex (opp c) 0, ex (opp c) 1].toFinset := by decide
theorem experts_nodup : ∀ c : Dev nD, [ex c 0, ex c 1, ex (lft c) 0, ex (lft c) 1, ex (rgt c) 0, ex (rgt c) 1, ex (opp c) 0, ex (opp c) 1].Nodup := by decide
theorem ex_own : ∀ (c : Dev nD) (b : Fin 2), (ex c b).val = (ex c 0).val ∨ (ex c b).val = (ex c 1).val := by decide
theorem ex_other : ∀ (c d : Dev nD) (_ : d ≠ c) (b : Fin 2), ¬ ((ex d b).val = (ex c 0).val ∨ (ex d b).val = (ex c 1).val) := by decide
theorem lft_ne : ∀ c : Dev nD, lft c ≠ c := by decide
theorem rgt_ne : ∀ c : Dev nD, rgt c ≠ c := by decide
theorem opp_ne : ∀ c : Dev nD, opp c ≠ c := by decide

omit [FloatOps F] in
/-- The histogram table is its four rows. -/
theorem hist_rows (c : Dev nD) (q : PosShare TreeShare) (f : Vec F S4x8 .f32) :
    ((c : Thread nD τ).loc cc0_scratch1 ↦{q} f : sProp 𝕄) = iprop(hPt c c q f ∗ hPt c (lft c) q f ∗ hPt c (rgt c) q f ∗ hPt c (opp c) q f) := by
  have h : ((c : Thread nD τ).loc cc0_scratch1 ↦{q} f : sProp 𝕄) = bigSep Finset.univ fun d : Dev nD => hPt c d q f := by
    rw [hRows_cover, pointsTo_biUnion _ _ hRows_disjoint]; rfl
  rw [h, bigSep_univ_eq_bigSepL [c, lft c, rgt c, opp c] (ring_complete c) (ring_nodup c)]
  simp only [bigSepL_cons_cons, bigSepL_singleton]
  rfl

omit [FloatOps F] in
/-- The expert table is its eight experts. -/
theorem w_rows (c : Dev nD) (q : PosShare TreeShare) (f : Vec F S2048x512 .bf16) :
    ((c : Thread nD τ).loc cc0_scratch0 ↦{q} f : sProp 𝕄) = iprop(wPt c (ex c 0) q f ∗ wPt c (ex c 1) q f ∗ wPt c (ex (lft c) 0) q f ∗ wPt c (ex (lft c) 1) q f
      ∗ wPt c (ex (rgt c) 0) q f ∗ wPt c (ex (rgt c) 1) q f ∗ wPt c (ex (opp c) 0) q f ∗ wPt c (ex (opp c) 1) q f) := by
  have h : ((c : Thread nD τ).loc cc0_scratch0 ↦{q} f : sProp 𝕄) = bigSep Finset.univ fun e : Fin 8 => wPt c e q f := by
    rw [wRows_cover, pointsTo_biUnion _ _ wRows_disjoint]; rfl
  rw [h, bigSep_univ_eq_bigSepL [ex c 0, ex c 1, ex (lft c) 0, ex (lft c) 1, ex (rgt c) 0, ex (rgt c) 1, ex (opp c) 0, ex (opp c) 1]
    (experts_complete c) (experts_nodup c)]
  simp only [bigSepL_cons_cons, bigSepL_singleton]
  rfl

omit [FloatOps F] in
theorem wPt_congr (c : Dev nD) (e : Fin 8) (q : PosShare TreeShare) (f g : Vec F S2048x512 .bf16) (h : ∀ i ∈ wRows e, f i = g i) :
    (wPt c e q f : sProp 𝕄) ⊢ wPt c e q g := by unfold wPt; exact Entails.of_eq (pointsTo_congr h)

/-- The expert table put together again: the device's own places were never written, the other six hold their experts. -/
def wBack (c : Dev nD) (f : Vec F S2048x512 .bf16) : Vec F S2048x512 .bf16 := fun i =>
  if (i 0).val / 256 = (ex c 0).val ∨ (i 0).val / 256 = (ex c 1).val then f i else wAll m i

theorem w_back_own (c : Dev nD) (b : Fin 2) (f : Vec F S2048x512 .bf16) : (wPt c (ex c b) fullShare f : sProp 𝕄) ⊢ wPt c (ex c b) fullShare (wBack m c f) :=
  wPt_congr c _ _ _ _ fun i hi => by
    unfold wBack
    rw [if_pos]
    rw [mem_wRows.mp hi]
    exact ex_own c b
theorem w_back_other (c d : Dev nD) (hd : d ≠ c) (b : Fin 2) (f : Vec F S2048x512 .bf16) :
    (wPt c (ex d b) fullShare (wAll m) : sProp 𝕄) ⊢ wPt c (ex d b) fullShare (wBack m c f) :=
  wPt_congr c _ _ _ _ fun i hi => by
    unfold wBack
    rw [if_neg]
    rw [mem_wRows.mp hi]
    exact ex_other c d hd b

omit [FloatOps F] in
theorem e_halves (c : Dev nD) (q : PosShare TreeShare) : ((c : Thread nD τ).loc cc0_stg2_0 ↦{q} estg m c : sProp 𝕄)
    ⊣⊢ iprop(((c : Thread nD τ).loc cc0_stg2_0 ↦{q.left} estg m c) ∗ ((c : Thread nD τ).loc cc0_stg2_0 ↦{q.right} estg m c)) :=
  pointsTo_share (PosShare.mem_left_op_right q)

omit [FloatOps F] in
/-- The device's own experts: a share of the whole block to read, and a share of each expert for each of its two copies. -/
theorem e_parts (c : Dev nD) :
    ((c : Thread nD τ).loc cc0_stg2_0 ↦{fullShare} estg m c : sProp 𝕄) ⊣⊢ iprop(((c : Thread nD τ).loc cc0_stg2_0 ↦{fullShare.left} estg m c)
      ∗ (ePt m c 0 fullShare.right.left ∗ ePt m c 1 fullShare.right.left) ∗ (ePt m c 0 fullShare.right.right ∗ ePt m c 1 fullShare.right.right)) := by
  have h : ∀ q : PosShare TreeShare, ((c : Thread nD τ).loc cc0_stg2_0 ↦{q} estg m c : sProp 𝕄) = iprop(ePt m c 0 q ∗ ePt m c 1 q) := fun q => by
    rw [eSlab_cover, pointsTo_biUnion _ _ eSlab_disjoint, bigSep_univ_eq_bigSepL [(0 : Fin 2), 1] (by decide) (by decide)]
    simp only [bigSepL_cons_cons, bigSepL_singleton]
    rfl
  rw [← h, ← h]
  have a := e_halves m c fullShare
  have b := e_halves m c fullShare.right
  exact ⟨a.1.trans (sep_mono .rfl b.1), (sep_mono .rfl b.2).trans a.2⟩

theorem nine {P : Fin 9 → sProp 𝕄} : bigSep Finset.univ P = iprop(P 0 ∗ P 1 ∗ P 2 ∗ P 3 ∗ P 4 ∗ P 5 ∗ P 6 ∗ P 7 ∗ P 8) := by
  rw [bigSep_univ_eq_bigSepL [0, 1, 2, 3, 4, 5, 6, 7, 8] (by decide) (by decide)]
  simp only [bigSepL_cons_cons, bigSepL_singleton]
  rfl

omit [FloatOps F] in
theorem dst_eqs (c : Dev nD) : dst 0 c = rgt c ∧ dst 1 c = lft c ∧ dst 2 c = rgt c ∧ dst 3 c = rgt c ∧ dst 4 c = rgt c ∧ dst 5 c = lft c
    ∧ dst 6 c = lft c ∧ dst 7 c = rgt c ∧ dst 8 c = lft c := ⟨rfl, rfl, rfl, rfl, rfl, rfl, rfl, rfl, rfl⟩

omit [FloatOps F] in
theorem free_intro (t : Fin 9) (d : Dev nD) (h : Vec F S4x8 .f32) (w : Vec F S2048x512 .bf16) : land t d h w ⊢ (free (F := F) t d : sProp 𝕄) := by
  unfold free; iintro H; iexists h, w; iexact H

/-- What the device lends to the neighbour before it: the places where that one's copies to the right land. -/
theorem pay_left (c : Dev nD) (h : Vec F S4x8 .f32) (w : Vec F S2048x512 .bf16) :
    iprop(hPt c (lft c) fullShare h ∗ hPt c (opp c) fullShare h ∗ wPt c (ex (lft c) 0) fullShare w ∗ wPt c (ex (lft c) 1) fullShare w ∗ wPt c (ex (opp c) 0) fullShare w)
      ⊢ (barPay (F := F) (lft c) true : sProp 𝕄) := by
  unfold barPay
  rw [if_pos rfl, rgt_lft]
  iintro ⟨H0, H2, W3, W4, W7⟩
  isplitl [H0]; · iapply (show hPt c (lft c) fullShare h ⊢ free (F := F) 0 c from free_intro 0 c h w) $$ H0
  isplitl [H2]; · iapply (show hPt c (opp c) fullShare h ⊢ free (F := F) 2 c from free_intro 2 c h w) $$ H2
  isplitl [W3]; · iapply (show wPt c (ex (lft c) 0) fullShare w ⊢ free (F := F) 3 c from free_intro 3 c h w) $$ W3
  isplitl [W4]; · iapply (show wPt c (ex (lft c) 1) fullShare w ⊢ free (F := F) 4 c from free_intro 4 c h w) $$ W4
  iapply (show wPt c (ex (opp c) 0) fullShare w ⊢ free (F := F) 7 c from free_intro 7 c h w) $$ W7
/-- What it lends to the neighbour after it: the places where that one's copies to the left land. -/
theorem pay_right (c : Dev nD) (h : Vec F S4x8 .f32) (w : Vec F S2048x512 .bf16) :
    iprop(hPt c (rgt c) fullShare h ∗ wPt c (ex (rgt c) 1) fullShare w ∗ wPt c (ex (rgt c) 0) fullShare w ∗ wPt c (ex (opp c) 1) fullShare w)
      ⊢ (barPay (F := F) (rgt c) false : sProp 𝕄) := by
  unfold barPay
  rw [if_neg Bool.false_ne_true, lft_rgt]
  iintro ⟨H1, W5, W6, W8⟩
  isplitl [H1]; · iapply (show hPt c (rgt c) fullShare h ⊢ free (F := F) 1 c from free_intro 1 c h w) $$ H1
  isplitl [W5]; · iapply (show wPt c (ex (rgt c) 1) fullShare w ⊢ free (F := F) 5 c from free_intro 5 c h w) $$ W5
  isplitl [W6]; · iapply (show wPt c (ex (rgt c) 0) fullShare w ⊢ free (F := F) 6 c from free_intro 6 c h w) $$ W6
  iapply (show wPt c (ex (opp c) 1) fullShare w ⊢ free (F := F) 8 c from free_intro 8 c h w) $$ W8
/-- What the two neighbours lend, copy by copy. -/
theorem pay_split (c : Dev nD) : iprop(barPay (F := F) c false ∗ barPay (F := F) c true) ⊢ (bigSep Finset.univ fun t => free (F := F) t (dst t c) : sProp 𝕄) := by
  rw [nine]
  unfold barPay
  rw [if_neg Bool.false_ne_true, if_pos rfl]
  iintro ⟨⟨F1, F5, F6, F8⟩, F0, F2, F3, F4, F7⟩
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  iexact F8

theorem wpk_bind (c : Dev nD) {α β : Type} (p : Prog (TpuEff nD τ sig (Elt F) Λ₀ .tc) α) (k : α → Prog (TpuEff nD τ sig (Elt F) Λ₀ .tc) β) (Q : β → sProp 𝕄) :
    wpk c (p >>= k) Q = wpk c p (fun a => wpk c (k a) Q) := wp_bind ..

/-! ## The body -/

/-- A device's records: what it raises and sends with, waits with, and owes. -/
def keys (c : Dev nD) : sProp 𝕄 :=
  iprop(dutyTok EX (barCell (lft c)) 0 true ∗ dutyTok EX (barCell (rgt c)) 0 false ∗ cred (tallyAt (barCell c) () 2) ∗ atPos EX (barCell c) 0 ∅ 0
    ∗ (bigSep Finset.univ fun t => copyTok t c) ∗ (bigSep Finset.univ fun t => recvKey t c) ∗ (bigSep Finset.univ fun t => sendAt t c))
/-- A device's exchange semaphores, all at zero. -/
def zeros (c : Dev nD) : sProp 𝕄 :=
  iprop(semVal (barCell c) 0 ∗ (bigSep Finset.univ fun t => semVal (sendCell t c) 0) ∗ (bigSep Finset.univ fun t => semVal (recvCell t c) 0))

section Body
variable (K : CIx → ℕ) (c : Dev nD) (hx : xM.IsWhole) (hr : rM.IsWhole) (he : eM.IsWhole) (ho : oM.IsWhole) (hw : wM.IsWhole) (hh : hM.IsWhole)

set_option maxHeartbeats 2000000 in
theorem body_run (fo : Vec F S512x512 .f32) (fw : Vec F S2048x512 .bf16) (fh : Vec F S4x8 .f32) {Q : PUnit → sProp 𝕄} :
    iprop(known m K ∗ keys c ∗ debt c (owes0 c)
        ∗ ((c : Thread nD τ).loc cc0_stg0_0 ↦{fullShare} xstg m c) ∗ ((c : Thread nD τ).loc cc0_stg1_0 ↦{fullShare} rstg m c)
        ∗ ((c : Thread nD τ).loc cc0_stg2_0 ↦{fullShare} estg m c) ∗ ((c : Thread nD τ).loc cc0_stg3_0 ↦{fullShare} fo)
        ∗ ((c : Thread nD τ).loc cc0_scratch0 ↦{fullShare} fw) ∗ ((c : Thread nD τ).loc cc0_scratch1 ↦{fullShare} fh))
      ⊢ iprop(((zeros c ∗ debt c 0
        ∗ ((c : Thread nD τ).loc cc0_stg0_0 ↦{fullShare} xstg m c) ∗ ((c : Thread nD τ).loc cc0_stg1_0 ↦{fullShare} rstg m c)
        ∗ ((c : Thread nD τ).loc cc0_stg2_0 ↦{fullShare} estg m c) ∗ ((c : Thread nD τ).loc cc0_stg3_0 ↦{fullShare} outAll m c)
        ∗ ((c : Thread nD τ).loc cc0_scratch0 ↦{fullShare} wBack m c fw) ∗ ((c : Thread nD τ).loc cc0_scratch1 ↦{fullShare} histAll m))
          -∗ Q ⟨⟩) -∗ wpk c (cc0_body (F := F) xM hx rM hr eM he oM ho wM hw hM hh cc0_scratch2 cc0_scratch3 cc0_scratch4 cc0_scratch5) Q) := by
  rw [cc0_body_eq_skeleton]
  unfold cc0_body_skel keys
  rw [nine, nine, nine, w_rows c fullShare fw, hist_rows c fullShare fh]
  iintro ⟨#HK, ⟨TL, TR, BC, BA, ⟨T0, T1, T2, T3, T4, T5, T6, T7, T8⟩, ⟨K0, K1, K2, K3, K4, K5, K6, K7, K8⟩, A0, A1, A2, A3, A4, A5, A6, A7, A8⟩, HO, Hx, Hr, He, Ho, ⟨Wc0, Wc1, Wl0, Wl1, Wr0, Wr1, Wg0, Wg1⟩, Hc, Hl, Hrr, Hg⟩ Hk
  ihave PL := (pay_left c fh fw) $$ [Hl Hg Wl0 Wl1 Wg0]
  · isplitl [Hl]; · iexact Hl
    isplitl [Hg]; · iexact Hg
    isplitl [Wl0]; · iexact Wl0
    isplitl [Wl1]; · iexact Wl1
    iexact Wg0
  ihave PR := (pay_right c fh fw) $$ [Hrr Wr1 Wr0 Wg1]
  · isplitl [Hrr]; · iexact Hrr
    isplitl [Wr1]; · iexact Wr1
    isplitl [Wr0]; · iexact Wr0
    iexact Wg1
  rw [wpk_bind]
  iapply (part1 m K c hx hr he ho hw hh fh) $$ [TL PL TR PR BC BA HO Hr Hc]
  · isplitr; · iexact HK
    isplitl [TL]; · iexact TL
    isplitl [PL]; · iexact PL
    isplitl [TR]; · iexact TR
    isplitl [PR]; · iexact PR
    isplitl [BC]; · iexact BC
    isplitl [BA]; · iexact BA
    isplitl [HO]; · iexact HO
    isplitl [Hr]; · iexact Hr
    iexact Hc
  iintro ⟨B1, B2, BZ, HO, Hr, Hc⟩
  ihave FF := ((pay_split c).trans (Entails.of_eq nine)) $$ [B1 B2]
  · isplitl [B1]; · iexact B1
    iexact B2
  icases FF with ⟨F0, F1, F2, F3, F4, F5, F6, F7, F8⟩
  ihave Hc := (hPt_halves c c (histAll m)) $$ Hc
  icases Hc with ⟨Hc, Hq⟩
  ihave Hq := (show hPt c c fullShare.right (histAll m) ⊢ iprop(hPt c c fullShare.right.left (histAll m) ∗ hPt c c fullShare.right.right (histAll m)) from by
    unfold hPt; exact (pointsTo_share (PosShare.mem_left_op_right fullShare.right)).1) $$ Hq
  icases Hq with ⟨I0, I1⟩
  ihave He := (e_parts m c).1 $$ He
  icases He with ⟨He, ⟨I3, I5⟩, I6, I4⟩
  ihave R0 := (show iprop(hPt c c fullShare.right.left (histAll m) ∗ free (F := F) 0 (dst 0 c) ∗ copyTok 0 c) ⊢ ready m 0 c from .rfl) $$ [I0 F0 T0]
  · isplitl [I0]; · iexact I0
    isplitl [F0]; · iexact F0
    iexact T0
  ihave R1 := (show iprop(hPt c c fullShare.right.right (histAll m) ∗ free (F := F) 1 (dst 1 c) ∗ copyTok 1 c) ⊢ ready m 1 c from .rfl) $$ [I1 F1 T1]
  · isplitl [I1]; · iexact I1
    isplitl [F1]; · iexact F1
    iexact T1
  ihave R3 := (show iprop(ePt m c 0 fullShare.right.left ∗ free (F := F) 3 (dst 3 c) ∗ copyTok 3 c) ⊢ ready m 3 c from .rfl) $$ [I3 F3 T3]
  · isplitl [I3]; · iexact I3
    isplitl [F3]; · iexact F3
    iexact T3
  ihave R5 := (show iprop(ePt m c 1 fullShare.right.left ∗ free (F := F) 5 (dst 5 c) ∗ copyTok 5 c) ⊢ ready m 5 c from .rfl) $$ [I5 F5 T5]
  · isplitl [I5]; · iexact I5
    isplitl [F5]; · iexact F5
    iexact T5
  ihave R4 := (show iprop(ePt m c 1 fullShare.right.right ∗ free (F := F) 4 (dst 4 c) ∗ copyTok 4 c) ⊢ ready m 4 c from .rfl) $$ [I4 F4 T4]
  · isplitl [I4]; · iexact I4
    isplitl [F4]; · iexact F4
    iexact T4
  ihave R6 := (show iprop(ePt m c 0 fullShare.right.right ∗ free (F := F) 6 (dst 6 c) ∗ copyTok 6 c) ⊢ ready m 6 c from .rfl) $$ [I6 F6 T6]
  · isplitl [I6]; · iexact I6
    isplitl [F6]; · iexact F6
    iexact T6
  rw [wpk_bind]
  iapply (part2 m K c hx hr he ho hw hh _ _ _) $$ [R0 R1 R3 HO]
  · isplitr; · iexact HK
    isplitl [R0]; · iexact R0
    isplitl [R1]; · iexact R1
    isplitl [R3]; · iexact R3
    iexact HO
  iintro ⟨S0, S1, S3, HO⟩
  rw [wpk_bind]
  iapply (part3 m K c hx hr he ho hw hh _ _ _) $$ [R5 K0 F2 T2 HO]
  · isplitr; · iexact HK
    isplitl [R5]; · iexact R5
    isplitl [K0]; · iexact K0
    isplitl [F2]; · iexact F2
    isplitl [T2]; · iexact T2
    iexact HO
  iintro ⟨S5, S2, Hl, Z0, HO⟩
  rw [wpk_bind]
  iapply (part4 m K c hx hr he ho hw hh _ _) $$ [R4 R6 K1 K2 HO]
  · isplitr; · iexact HK
    isplitl [R4]; · iexact R4
    isplitl [R6]; · iexact R6
    isplitl [K1]; · iexact K1
    isplitl [K2]; · iexact K2
    iexact HO
  iintro ⟨S4, S6, Hrr, Z1, Hg, Z2, HO⟩
  ihave Hrr := (show landed m 1 c ⊢ iprop(hPt c (rgt c) fullShare.left (histAll m) ∗ hPt c (rgt c) fullShare.right (histAll m)) from hPt_halves c (rgt c) (histAll m)) $$ Hrr
  icases Hrr with ⟨Hrr, Hrq⟩
  ihave Hg := (show landed m 2 c ⊢ iprop(hPt c (opp c) fullShare.left (histAll m) ∗ hPt c (opp c) fullShare.right (histAll m)) from hPt_halves c (opp c) (histAll m)) $$ Hg
  icases Hg with ⟨Hg, Hgq⟩
  ihave Hh := (Entails.of_eq (hist_rows c fullShare.left (histAll m)).symm) $$ [Hc Hl Hrr Hg]
  · isplitl [Hc]; · iexact Hc
    isplitl [Hl]; · iexact Hl
    isplitl [Hrr]; · iexact Hrr
    iexact Hg
  rw [wpk_bind]
  iapply (part5 m K c hx hr he ho hw hh _ _ _ _ _) $$ [Hh Hx K3 HO]
  · isplitr; · iexact HK
    isplitl [Hh]; · iexact Hh
    isplitl [Hx]; · iexact Hx
    isplitl [K3]; · iexact K3
    iexact HO
  iintro ⟨Hh, Hx, L3, Z3, HO⟩
  ihave L3 := (show landed m 3 c ⊢ iprop(wPt c (ex (lft c) 0) fullShare.left (wAll m) ∗ wPt c (ex (lft c) 0) fullShare.right (wAll m)) from wPt_halves c (ex (lft c) 0) (wAll m)) $$ L3
  icases L3 with ⟨Wl0, I7⟩
  ihave R7 := (show iprop(wPt c (ex (lft c) 0) fullShare.right (wAll m) ∗ free (F := F) 7 (dst 7 c) ∗ copyTok 7 c) ⊢ ready m 7 c from .rfl) $$ [I7 F7 T7]
  · isplitl [I7]; · iexact I7
    isplitl [F7]; · iexact F7
    iexact T7
  rw [wpk_bind]
  iapply (part6 m K c hx hr he ho hw hh _ _ _ _ _ _) $$ [R7 K5 F8 T8 HO]
  · isplitr; · iexact HK
    isplitl [R7]; · iexact R7
    isplitl [K5]; · iexact K5
    isplitl [F8]; · iexact F8
    isplitl [T8]; · iexact T8
    iexact HO
  iintro ⟨S7, S8, Wr1, Z5, HO⟩
  rw [wpk_bind]
  iapply (part7 m K c hx hr he ho hw hh _ _ _ _ _ _ _ _) $$ [He Wl0]
  · isplitr; · iexact HK
    isplitl [He]; · iexact He
    iexact Wl0
  iintro ⟨He, Wl0⟩
  rw [wpk_bind]
  iapply (part8 m K c hx hr he ho hw hh _ _ _ _ _ _ _) $$ [Wr1 K4 HO]
  · isplitr; · iexact HK
    isplitl [Wr1]; · iexact Wr1
    isplitl [K4]; · iexact K4
    iexact HO
  iintro ⟨Wr1, Wl1, Z4, HO⟩
  rw [wpk_bind]
  iapply (part9 m K c hx hr he ho hw hh _ _ _ _ _ _ _ _) $$ [K6 K7 HO]
  · isplitr; · iexact HK
    isplitl [K6]; · iexact K6
    isplitl [K7]; · iexact K7
    iexact HO
  iintro ⟨Wr0, Z6, Wg0, Z7, HO⟩
  rw [wpk_bind]
  iapply (part10 m K c hx hr he ho hw hh fo _ _ _ _ _ _ _ _) $$ [K8 Ho S0 A0 HO]
  · isplitr; · iexact HK
    isplitl [K8]; · iexact K8
    isplitl [Ho]; · iexact Ho
    isplitl [S0]; · iexact S0
    isplitl [A0]; · iexact A0
    iexact HO
  iintro ⟨Wg1, Z8, Ho, I0, Y0, HO⟩
  rw [wpk_bind]
  iapply (part11 m K c hx hr he ho hw hh) $$ [S1 A1 S2 A2 S3 A3 S4 A4 S5 A5 HO]
  · isplitr; · iexact HK
    isplitl [S1]; · iexact S1
    isplitl [A1]; · iexact A1
    isplitl [S2]; · iexact S2
    isplitl [A2]; · iexact A2
    isplitl [S3]; · iexact S3
    isplitl [A3]; · iexact A3
    isplitl [S4]; · iexact S4
    isplitl [A4]; · iexact A4
    isplitl [S5]; · iexact S5
    isplitl [A5]; · iexact A5
    iexact HO
  iintro ⟨I1, Y1, I2, Y2, I3, Y3, I4, Y4, I5, Y5, HO⟩
  simp only [Prog.lift, Prog.bind_op, Prog.bind_ret, Prog.pure_eq_ret]
  iapply (wp_sent m K c 6 rfl (by rfl)) $$ [S6 A6 HO]
  · isplitr; · iexact HK
    isplitl [S6]; · iexact S6
    isplitl [A6]; · iexact A6
    iexact HO
  iintro ⟨I6, Y6, HO⟩
  iapply (wp_sent m K c 7 rfl (by rfl)) $$ [S7 A7 HO]
  · isplitr; · iexact HK
    isplitl [S7]; · iexact S7
    isplitl [A7]; · iexact A7
    iexact HO
  iintro ⟨I7, Y7, HO⟩
  iapply (wp_sent m K c 8 rfl (by rfl)) $$ [S8 A8 HO]
  · isplitr; · iexact HK
    isplitl [S8]; · iexact S8
    isplitl [A8]; · iexact A8
    iexact HO
  iintro ⟨I8, Y8, HO⟩
  ihave I0 := (show lent m 0 c ⊢ hPt c c fullShare.right.left (histAll m) from .rfl) $$ I0
  ihave I1 := (show lent m 1 c ⊢ hPt c c fullShare.right.right (histAll m) from .rfl) $$ I1
  ihave I2 := (show lent m 2 c ⊢ hPt c (lft c) fullShare.right (histAll m) from .rfl) $$ I2
  ihave I3 := (show lent m 3 c ⊢ ePt m c 0 fullShare.right.left from .rfl) $$ I3
  ihave I4 := (show lent m 4 c ⊢ ePt m c 1 fullShare.right.right from .rfl) $$ I4
  ihave I5 := (show lent m 5 c ⊢ ePt m c 1 fullShare.right.left from .rfl) $$ I5
  ihave I6 := (show lent m 6 c ⊢ ePt m c 0 fullShare.right.right from .rfl) $$ I6
  ihave I7 := (show lent m 7 c ⊢ wPt c (ex (lft c) 0) fullShare.right (wAll m) from .rfl) $$ I7
  ihave I8 := (show lent m 8 c ⊢ wPt c (ex (rgt c) 1) fullShare.right (wAll m) from .rfl) $$ I8
  unfold wpk; rw [wp_ret]; imodintro
  iapply Hk
  unfold zeros
  rw [nine, nine]
  isplitl [BZ Y0 Z0 Y1 Z1 Y2 Z2 Y3 Z3 Y4 Z4 Y5 Z5 Y6 Z6 Y7 Z7 Y8 Z8]
  · isplitl [BZ]; · iexact BZ
    isplitl [Y0 Y1 Y2 Y3 Y4 Y5 Y6 Y7 Y8]
    · isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      iexact Y8
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    iexact Z8
  isplitl [HO]; · iexact HO
  isplitl [Hx]; · iexact Hx
  isplitl [Hr]; · iexact Hr
  isplitl [He I3 I4 I5 I6]
  · iapply (e_parts m c).2 $$ [He I3 I4 I5 I6]
    isplitl [He]; · iexact He
    isplitl [I3 I5]
    · isplitl [I3]; · iexact I3
      iexact I5
    isplitl [I6]; · iexact I6
    iexact I4
  isplitl [Ho]; · iexact Ho
  isplitl [Wc0 Wc1 Wl0 Wl1 Wr0 Wr1 Wg0 Wg1 I7 I8]
  · rw [w_rows c fullShare (wBack m c fw)]
    isplitl [Wc0]; · iapply (w_back_own m c 0 fw) $$ Wc0
    isplitl [Wc1]; · iapply (w_back_own m c 1 fw) $$ Wc1
    isplitl [Wl0 I7]
    · iapply ((wPt_whole c (ex (lft c) 0) (wAll m)).trans (w_back_other m c (lft c) (lft_ne c) 0 fw)) $$ [Wl0 I7]
      isplitl [Wl0]; · iexact Wl0
      iexact I7
    isplitl [Wl1]; · iapply (w_back_other m c (lft c) (lft_ne c) 1 fw) $$ Wl1
    isplitl [Wr0]; · iapply (w_back_other m c (rgt c) (rgt_ne c) 0 fw) $$ Wr0
    isplitl [Wr1 I8]
    · iapply ((wPt_whole c (ex (rgt c) 1) (wAll m)).trans (w_back_other m c (rgt c) (rgt_ne c) 1 fw)) $$ [Wr1 I8]
      isplitl [Wr1]; · iexact Wr1
      iexact I8
    isplitl [Wg0]; · iapply (w_back_other m c (opp c) (opp_ne c) 0 fw) $$ Wg0
    iapply (w_back_other m c (opp c) (opp_ne c) 1 fw) $$ Wg1
  ihave I := (show iprop(hPt c c fullShare.right.left (histAll m) ∗ hPt c c fullShare.right.right (histAll m)) ⊢ hPt c c fullShare.right (histAll m) from by
    unfold hPt; exact (pointsTo_share (PosShare.mem_left_op_right fullShare.right)).2) $$ [I0 I1]
  · isplitl [I0]; · iexact I0
    iexact I1
  ihave J := (Entails.of_eq (hist_rows c fullShare.right (histAll m)).symm) $$ [I I2 Hrq Hgq]
  · isplitl [I]; · iexact I
    isplitl [I2]; · iexact I2
    isplitl [Hrq]; · iexact Hrq
    iexact Hgq
  iapply (pointsTo_share (PosShare.mem_left_op_right fullShare)).2 $$ [Hh J]
  isplitl [Hh]; · iexact Hh
  iexact J

end Body

end Cert.KernelIdeal.Moe

end
-- ==== Proof.Launch.lean ====
/-
The launch: what every device starts from, the exchange's records dealt among the devices, and the run of the whole
program from any memory to its final one.
-/
module

public import proofs.«01_k».proof.Proof.Body
public import proofs.«01_k».proof.Proof.Gen.KernelIdeal.Frame
public import Idealize.ShloMosaic.Lib.Pipeline.CollectiveSegs

@[expose] public section

set_option maxRecDepth 16384

noncomputable section

namespace Cert.KernelIdeal.Moe

open Cert.KernelIdeal Cert.KernelIdeal.Gen
open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launched state. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from besides its windows and scratch tables. -/
def start (c : Dev nD) : sProp 𝕄 := iprop(∃ K, known m K ∗ keys c)
/-- The two scratch tables, at contents that do not matter. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m c ∗ scratch c)
def Φ₁ (c : Dev nD) : sProp 𝕄 := iprop(zeros c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => estg m c
    | ⟨3, _⟩ => outAll m c
  Φ t := match t with
    | ⟨0, _⟩ => Φ₀ m c
    | ⟨_ + 1, _⟩ => Φ₁ c
  q _ := fullShare
  owed t := match t with
    | ⟨0, _⟩ => owes0 c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt () t₀.succ ∗ stg c cc0_stg0_0 (xstg m c) ∗ stg c cc0_stg1_0 (rstg m c) ∗ stg c cc0_stg2_0 (estg m c) ∗ stg c cc0_stg3_0 (outAll m c))

/-- The body's obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpk c (cc0_body (F := F) xM (Memref.isWhole_whole _) rM (Memref.isWhole_whole _) eM (Memref.isWhole_whole _) oM (Memref.isWhole_whole _)
    wM (Memref.isWhole_whole _) hM (Memref.isWhole_whole _) cc0_scratch2 cc0_scratch3 cc0_scratch4 cc0_scratch5) (fun _ => bodyPost m ρ c)
  unfold bodyPre Φ₀ start scratch Dat.owesAt Pipeline.owesWithin
  rw [show (dats m ρ 0 c).owed t₀.castSucc = owes0 c from rfl]
  iintro ⟨⟨⟨%K, #HK, Hkeys⟩, ⟨%fw, Hw⟩, ⟨%fh, Hh⟩⟩, ⟨%W, %hW, HO⟩, ⟨%d0, %g0, %hg0, Hx⟩, ⟨%d1, %g1, %hg1, Hr⟩, ⟨%d2, %g2, %hg2, He⟩, ⟨%d3, %g3, %hg3, Ho⟩⟩
  have hx : g0 = xstg m c := by rw [hg0]; unfold Dat.before; rw [if_pos (fetch0_0 t₀)]; rfl
  have hr : g1 = rstg m c := by rw [hg1]; unfold Dat.before; rw [if_pos (fetch0_1 t₀)]; rfl
  have he : g2 = estg m c := by rw [hg2]; unfold Dat.before; rw [if_pos (fetch0_2 t₀)]; rfl
  subst hx hr he
  iapply (body_run m K c (Memref.isWhole_whole _) (Memref.isWhole_whole _) (Memref.isWhole_whole _) (Memref.isWhole_whole _) (Memref.isWhole_whole _) (Memref.isWhole_whole _) g3 fw fh) $$ [Hkeys HO Hx Hr He Ho Hw Hh]
  · isplitr; · iexact HK
    isplitl [Hkeys]; · iexact Hkeys
    isplitl [HO]; · unfold debt; iexists W; iexact HO
    isplitl [Hx]; · iexact Hx
    isplitl [Hr]; · iexact Hr
    isplitl [He]; · iexact He
    isplitl [Ho]; · iexact Ho
    isplitl [Hw]; · iexact Hw
    iexact Hh
  iintro ⟨Hz, HO, Hx, Hr, He, Ho, Hw, Hh⟩
  unfold bodyPost Φ₁ scratch Dat.owesAt Pipeline.owesWithin debt
  rw [show (dats m ρ 0 c).owed t₀.succ = 0 from rfl]
  isplitl [Hz Hw Hh]
  · isplitl [Hz]; · iexact Hz
    isplitl [Hw]
    · iexists _; iexact Hw
    iexists _; iexact Hh
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [He]
  · iexists _; isplitr; · (ipureintro; rfl)
    iexact He
  iexists _; isplitr; · (ipureintro; rfl)
  iexact Ho

/-! ## The records at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : CIx → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def ringCells : Finset (GSem nD τ sig) := Finset.univ.map ⟨kcell, kcell_injective⟩

/-- The duties of a device's cells: two at its barrier cell, one at each end of a copy. -/
abbrev TIx : Type := Dev nD × (Bool ⊕ (Bool × Fin 9))
abbrev tokOf (x : TIx) : GSem nD τ sig × ℕ × Bool :=
  (((x.1 : Thread nD τ), Sum.elim (fun _ => SemLoc.reg barS) osem x.2), 0, Sum.elim id (fun _ => false) x.2)
theorem tok_injective : Function.Injective fun k : Bool ⊕ (Bool × Fin 9) => ((Sum.elim (fun _ => SemLoc.reg barS) osem k : SemLoc sig), (Sum.elim id (fun _ => false) k : Bool)) := by decide
theorem tokOf_injective : Function.Injective (tokOf : TIx → GSem nD τ sig × ℕ × Bool) := by
  rintro ⟨c, k⟩ ⟨c', k'⟩ h
  have h1 : c = c' := by have := congrArg (fun x : GSem nD τ sig × ℕ × Bool => x.1.1.1) h; exact this
  have h2 : k = k' := tok_injective (congrArg (fun x : GSem nD τ sig × ℕ × Bool => (x.1.2, x.2.2)) h)
  rw [h1, h2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duties of device `c`'s own cells. -/
def toks (c : Dev nD) : sProp 𝕄 :=
  iprop((dutyTok EX (barCell c) 0 false ∗ dutyTok EX (barCell c) 0 true)
    ∗ (bigSep Finset.univ fun t => dutyTok EX (sendCell t c) 0 false) ∗ (bigSep Finset.univ fun t => dutyTok EX (recvCell t c) 0 false))
/-- The duties device `c` discharges. -/
def payToks (c : Dev nD) : sProp 𝕄 :=
  iprop(dutyTok EX (barCell (lft c)) 0 true ∗ dutyTok EX (barCell (rgt c)) 0 false ∗ bigSep Finset.univ fun t => copyTok t c)
/-- Its positions at its own cells. -/
def posns (c : Dev nD) : sProp 𝕄 := bigSep Finset.univ fun k => atPos EX (kcell (c, k)) 0 ∅ 0

def G (c : Dev nD) : sProp 𝕄 :=
  iprop((bigSep Finset.univ fun k => roundState EX (sched m) (kcell (c, k)) 0)
    ∗ (posns c ∗ bigSep Finset.univ fun k => reached EX (kcell (c, k)) 0) ∗ toks c)
def records (K : CIx → ℕ) : sProp 𝕄 :=
  iprop((bigSep Finset.univ fun x : CIx => cellInv EX (sched m) (K x) (kcell x)) ∗ bigSep Finset.univ fun x : CIx => reached EX (kcell x) 0)
instance records_persistent (K : CIx → ℕ) : BI.Persistent (records m K) := by unfold records; infer_instance
def G' (c : Dev nD) : sProp 𝕄 := iprop(∃ K, records m K ∗ posns c ∗ payToks c)

/-- A family over a device's cells: the barrier's, the senders', the receivers'. -/
theorem cells_eq (c : Dev nD) (Φ : GSem nD τ sig → sProp 𝕄) : (bigSep Finset.univ fun k => Φ (kcell (c, k)))
    = iprop(Φ (barCell c) ∗ (bigSep Finset.univ fun t => Φ (sendCell t c)) ∗ (bigSep Finset.univ fun t => Φ (recvCell t c))) := by
  rw [bigSep_univ_sum, bigSep_univ_prod, bigSep_univ_eq_bigSepL [()] (by decide) (by decide), bigSep_univ_eq_bigSepL [true, false] (by decide) (by decide),
    bigSepL_cons_cons, bigSepL_singleton, bigSepL_singleton]
  rfl
theorem toks_eq (c : Dev nD) : (bigSep Finset.univ fun k => (dutyTok EX (tokOf (c, k)).1 (tokOf (c, k)).2.1 (tokOf (c, k)).2.2 : sProp 𝕄)) = toks c := by
  unfold toks
  rw [bigSep_univ_sum, bigSep_univ_prod, bigSep_univ_eq_bigSepL [false, true] (by decide) (by decide), bigSep_univ_eq_bigSepL [true, false] (by decide) (by decide),
    bigSepL_cons_cons, bigSepL_singleton, bigSepL_cons_cons, bigSepL_singleton]
  rfl

theorem fund_ring : BI.own (EX (initOf ringCells ringToks)) ⊢ (|==> bigSep Finset.univ (G m) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok EX x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund EX (sched m) ringCells ringToks) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G posns; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop((bigSep Finset.univ fun t => semVal (sendCell t c) 0) ∗ (bigSep Finset.univ fun t => semVal (recvCell t c) 0)) := by
  unfold Pipeline.ownSems0
  rw [bigSep_univ_prod, bigSep_univ_eq_bigSepL [true, false] (by decide) (by decide), bigSepL_cons_cons, bigSepL_singleton]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, cells_eq c fun g => semVal g 0]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (posns c ∗ bigSep Finset.univ fun k => reached EX (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def lftE : Dev nD ≃ Dev nD := ⟨lft, rgt, rgt_lft, lft_rgt⟩
def rgtE : Dev nD ≃ Dev nD := ⟨rgt, lft, lft_rgt, rgt_lft⟩
/-- Who sends what to whom. -/
def sendE : Dev nD × Fin 9 ≃ Dev nD × Fin 9 where
  toFun x := (dst x.2 x.1, x.2)
  invFun x := (frm x.2 x.1, x.2)
  left_inv x := Prod.ext (frm_dst x.2 x.1) rfl
  right_inv x := Prod.ext (dst_frm x.2 x.1) rfl

/-- The duties dealt to the devices that discharge them. -/
theorem toks_around : (bigSep Finset.univ fun c : Dev nD => (toks c : sProp 𝕄)) ⊢ bigSep Finset.univ fun c : Dev nD => payToks c := by
  have hr : (bigSep Finset.univ fun c : Dev nD => bigSep Finset.univ fun t => (dutyTok EX (recvCell t c) 0 false : sProp 𝕄))
      = bigSep Finset.univ fun c : Dev nD => bigSep Finset.univ fun t => (dutyTok EX (recvCell t (dst t c)) 0 false : sProp 𝕄) := by
    rw [← bigSep_univ_prod fun x : Dev nD × Fin 9 => (dutyTok EX (recvCell x.2 x.1) 0 false : sProp 𝕄), bigSep_univ_equiv sendE, bigSep_univ_prod]
    rfl
  unfold toks payToks copyTok
  simp only [bigSep_sep']
  rw [hr, bigSep_univ_equiv rgtE (fun c : Dev nD => (dutyTok EX (barCell c) 0 false : sProp 𝕄)),
    bigSep_univ_equiv lftE (fun c : Dev nD => (dutyTok EX (barCell c) 0 true : sProp 𝕄))]
  iintro ⟨⟨H1, H2⟩, H3, H4⟩
  isplitl [H2]; · iexact H2
  isplitl [H1]; · iexact H1
  isplitl [H3]; · iexact H3
  iexact H4

theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (sched m) κ (kcell (c, k))))
          ∗ (posns c ∗ bigSep Finset.univ fun k => reached EX (kcell (c, k)) 0) ∗ toks c) : sProp 𝕄)
      ⊢ bigSep Finset.univ (G' m) := by
  rw [bigSep_sep', bigSep_sep', ← bigSep_univ_prod (fun x : CIx => iprop(∃ κ : ℕ, cellInv EX (sched m) κ (kcell x))),
    bigSep_sep', ← bigSep_univ_prod (fun x : CIx => (reached EX (kcell x) 0 : sProp 𝕄))]
  iintro ⟨HI, ⟨Hat, #HR⟩, Htok⟩
  ihave HK := (BI.bigSep_exists_pi Finset.univ (fun (x : CIx) (κ : ℕ) => (cellInv EX (sched m) κ (kcell x) : sProp 𝕄))) $$ HI
  icases HK with ⟨%K, #HI⟩
  ihave Htk := (toks_around (F := F)) $$ Htok
  iapply (deal (R := records m K) (Φ := fun c => iprop(posns c ∗ payToks c)) fun c _ => show iprop(records m K ∗ posns c ∗ payToks c) ⊢ G' m c from by
    unfold G'
    iintro H
    iexists K
    iexact H)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_eq_iff {a b : Dev nD} : barCell a = barCell b ↔ a = b :=
  ⟨fun h => Fin.ext (congrArg (fun g : GSem nD τ sig => g.1.1.val) h), fun h => h ▸ rfl⟩
theorem recvS_injective : Function.Injective recvS := by decide
theorem recv_eq_iff {t t' : Fin 9} {a b : Dev nD} : recvCell t a = recvCell t' b ↔ t = t' ∧ a = b :=
  ⟨fun h => ⟨recvS_injective (SemLoc.dma.inj (congrArg (fun g : GSem nD τ sig => g.2) h)), Fin.ext (congrArg (fun g : GSem nD τ sig => g.1.1.val) h)⟩,
    fun h => by rw [h.1, h.2]⟩
theorem recv_ne_bar (t : Fin 9) (a b : Dev nD) : recvCell t a ≠ barCell b := fun h => by cases congrArg Prod.snd h

theorem owed_at_bar (d c : Dev nD) : ∀ l : List (Fin 9), owed d l (barCell c) () = 0
  | [] => rfl
  | t :: ts => by
    unfold owed
    rw [Pi.add_apply, Finsupp.add_apply, owed_at_bar d c ts, tallyAt_ne_cell (recv_ne_bar t _ c).symm, Finsupp.zero_apply, Nat.add_zero]
theorem owed_at_recv (d c : Dev nD) (t : Fin 9) : ∀ l : List (Fin 9), l.Nodup → owed d l (recvCell t c) () = if t ∈ l ∧ d = frm t c then units t else 0
  | [], _ => rfl
  | u :: us, hl => by
    unfold owed
    rw [Pi.add_apply, Finsupp.add_apply, owed_at_recv d c t us (List.nodup_cons.mp hl).2, tallyAt_apply]
    by_cases hu : t = u
    · subst hu
      rw [if_neg (fun h => (List.nodup_cons.mp hl).1 h.1), Nat.zero_add]
      by_cases hd : d = frm t c
      · rw [if_pos ⟨recv_eq_iff.mpr ⟨rfl, by rw [hd, dst_frm]⟩, rfl⟩, if_pos ⟨List.mem_cons_self, hd⟩]
      · rw [if_neg (fun h => hd (by rw [(recv_eq_iff.mp h.1).2, frm_dst])), if_neg (fun h => hd h.2)]
    · rw [if_neg (c := _ ∧ () = ()) (fun h => hu (recv_eq_iff.mp h.1).1), Nat.add_zero]
      exact if_congr ⟨fun h => ⟨List.mem_cons_of_mem _ h.1, h.2⟩, fun h => ⟨(List.mem_cons.mp h.1).resolve_left hu, h.2⟩⟩ rfl rfl

theorem owes_at_bar (d c : Dev nD) : owes0 d (barCell c) () = (if d = lft c then 1 else 0) + (if d = rgt c then 1 else 0) := by
  unfold owes0 owes1
  rw [Pi.add_apply, Finsupp.add_apply, Pi.add_apply, Finsupp.add_apply, owed_at_bar, tallyAt_apply, tallyAt_apply, Nat.zero_add]
  congr 1
  · by_cases h : d = lft c
    · subst h; rw [rgt_lft, if_pos ⟨rfl, rfl⟩, if_pos rfl]
    · rw [if_neg (fun ⟨h1, _⟩ => h (by rw [bar_eq_iff.mp h1, lft_rgt])), if_neg h]
  · by_cases h : d = rgt c
    · subst h; rw [lft_rgt, if_pos ⟨rfl, rfl⟩, if_pos rfl]
    · rw [if_neg (fun ⟨h1, _⟩ => h (by rw [bar_eq_iff.mp h1, rgt_lft])), if_neg h]
theorem mem_order : ∀ t : Fin 9, t ∈ order := by decide
theorem owes_at_recv (d c : Dev nD) (t : Fin 9) : owes0 d (recvCell t c) () = if d = frm t c then units t else 0 := by
  unfold owes0 owes1
  rw [Pi.add_apply, Finsupp.add_apply, Pi.add_apply, Finsupp.add_apply, owed_at_recv d c t order (by decide), tallyAt_ne_cell (recv_ne_bar t c _),
    tallyAt_ne_cell (recv_ne_bar t c _), Finsupp.zero_apply, Nat.add_zero, Nat.add_zero]
  exact if_congr ⟨fun h => h.2, fun h => ⟨mem_order t, h⟩⟩ rfl rfl

theorem launch_bar (c : Dev nD) :
    tallyOn (barCell c) (launchCredit (Pipeline.owing owes0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_at_bar d c, Finset.sum_add_distrib,
    Finset.sum_ite_eq' Finset.univ (lft c) fun _ => 1, Finset.sum_ite_eq' Finset.univ (rgt c) fun _ => 1, if_pos (Finset.mem_univ _), if_pos (Finset.mem_univ _)]
theorem launch_recv (t : Fin 9) (c : Dev nD) :
    tallyOn (recvCell t c) (launchCredit (Pipeline.owing owes0) 0 (recvCell t c)) = (tallyAt (recvCell t c) () (units t) : CellTallies nD τ sig Unit) := by
  unfold tallyAt; refine congrArg _ (Finsupp.ext fun u => ?_); cases u
  rw [Pipeline.launchCredit_owing, Finsupp.single_eq_same, Finset.sum_congr rfl fun d _ => owes_at_recv d c t, Finset.sum_ite_eq' Finset.univ (frm t c) fun _ => units t,
    if_pos (Finset.mem_univ _)]

def recvSems : Finset (SemLoc sig) := Finset.univ.map ⟨fun t : Fin 9 => SemLoc.dma (recvS t), fun _ _ h => recvS_injective (SemLoc.dma.inj h)⟩
theorem recvSems_sub : recvSems ⊆ Finset.univ.erase (SemLoc.reg barS) := fun s hs => by
  obtain ⟨t, -, rfl⟩ := Finset.mem_map.mp hs
  exact Finset.mem_erase.mpr ⟨fun h => absurd (show (SemLoc.dma (recvS t) : SemLoc sig) = .reg barS from h) (fun h' => by cases h'), Finset.mem_univ _⟩

theorem creds (c : Dev nD) :
    (Pipeline.launchCred owes0 c : sProp 𝕄) ⊢ iprop(cred (tallyAt (barCell c) () 2) ∗ bigSep Finset.univ fun t => cred (tallyAt (recvCell t c) () (units t))) := by
  unfold Pipeline.launchCred
  rw [bigSep_univ_at _ (SemLoc.reg barS), launch_bar]
  refine sep_mono_right ((bigSep_subset recvSems_sub).trans ?_)
  unfold recvSems
  rw [bigSep_map]
  exact bigSep_mono fun t _ => Entails.of_eq (congrArg cred (launch_recv t c))

/-! ## The run -/

def rest (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred owes0 c ∗ prngReg c (ρ c) ∗ G' m c)
      ⊢ |={Set.univ}=> iprop(start m c ∗ rest m c) := by
  rw [Pipeline.unscopedRestP_none, show (Pipeline.unscopedRest cfg0.spec c (fun b => m ((c : Thread nD τ).loc b)) : sProp 𝕄) = rest m c from unscopedRest0_eq c _]
  unfold G' records
  iintro ⟨Hrest, #Hlev, Hcr, -, ⟨%K, ⟨#HI, #HR⟩, Hpos, Hpay⟩⟩
  ihave Hc := (creds (F := F) c) $$ Hcr
  icases Hc with ⟨HB, HV⟩
  ihave Hpos := (show posns c ⊢ _ from Entails.of_eq (cells_eq (F := F) c fun g => atPos EX g 0 ∅ 0)) $$ Hpos
  icases Hpos with ⟨PB, PS, PR⟩
  imodintro
  isplitr [Hrest]
  · unfold start known keys payToks recvKey sendAt
    simp only [bigSep_sep']
    icases Hpay with ⟨T1, T2, T3⟩
    iexists K
    isplitr
    · isplitr; · iexact HI
      isplitr; · iexact HR
      iexact Hlev
    isplitl [T1]; · iexact T1
    isplitl [T2]; · iexact T2
    isplitl [HB]; · iexact HB
    isplitl [PB]; · iexact PB
    isplitl [T3]; · iexact T3
    isplitl [HV PR]
    · isplitl [HV] <;> iassumption
    iexact PS
  · iexact Hrest

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros scratch
  iintro ⟨⟨HB, HS⟩, Hr⟩
  isplitl [HB]; · iexact HB
  isplitl [HS] <;> iassumption

theorem stage_role (w : Fin cfg0.W) (s : Fin (cfg0.win w).nbuf) : role ((cfg0.win w).sem s) = none := by
  revert w s; decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- From any memory with every counter at zero, every fair execution of the four devices ends, with the result written,
    the arguments as they were and every counter at zero again. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owes0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := rest m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold rest
      iintro ⟨Hu, Hr, HSI⟩
      ihave %hm := (SI_pointsTo_agree (st := s') (ℓ := (c : Thread nD τ).loc main_arg1) (I := Finset.univ) (q := fullShare) (f := m ((c : Thread nD τ).loc main_arg1))) $$ [HSI Hr]
      · isplitl [HSI] <;> iassumption
      imod (Pipeline.unscopedSems0_read (X := unscopedSems0 c) (c := c) fupd_intro s') $$ [Hu HSI] with ⟨%h, HSI⟩
      · isplitl [Hu] <;> iassumption
      imodintro
      isplitr
      · ipureintro; exact ⟨h, funext fun i => hm i (Finset.mem_univ i)⟩
      iexact HSI)
    (hQ := fun _ h hs => ⟨fun c => ⟨(h c).1, (h c).2.2.2⟩, sem_eq_zero hs fun c => (h c).2.2.1⟩)

theorem final_0 (c : Dev nD) : finalA m ρ c (0 : Fin 4) = m ((c : Thread nD τ).loc main_arg0) := (dats (F := F) m ρ 0 c).arrAt_in (0 : Fin 4) rfl _
theorem final_1 (c : Dev nD) : finalA m ρ c (1 : Fin 4) = m ((c : Thread nD τ).loc main_arg2) := (dats (F := F) m ρ 0 c).arrAt_in (1 : Fin 4) rfl _
theorem final_2 (c : Dev nD) : finalA m ρ c (2 : Fin 4) = m ((c : Thread nD τ).loc main_arg3) := (dats (F := F) m ρ 0 c).arrAt_in (2 : Fin 4) rfl _

/-- The result array ends holding the body's output. -/
theorem final_3 (c : Dev nD) : finalA m ρ c (3 : Fin 4) = outAll m c := by
  have hz : (fun a => (win0_3.index (0 : Fin 1)) a * main_v1.ty.shape.size a) = fun _ => 0 :=
    funext fun a => by fin_cases a <;> decide
  have hr := fun f => Memref.read_access_unit_zero (Elt F) main_v1 hz (fun a => by fin_cases a <;> decide) f
  refine (hr (finalA m ρ c (3 : Fin 4))).symm.trans ?_
  show (win0_3.blk (0 : Fin 1)).view.read (Elt F) (finalA m ρ c (3 : Fin 4)) = _
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- Each argument window's one block is the whole argument. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem rstg_eq (c : Dev nD) : rstg m c = m ((c : Thread nD τ).loc main_arg2) := by
  have hz : (fun a => (win0_1.index (0 : Fin 1)) a * main_arg2.ty.shape.size a) = fun _ => 0 :=
    funext fun a => by fin_cases a <;> decide
  exact Memref.read_access_unit_zero (Elt F) main_arg2 hz (fun a => by fin_cases a <;> decide) _
theorem estg_eq (c : Dev nD) : estg m c = m ((c : Thread nD τ).loc main_arg3) := by
  have hz : (fun a => (win0_2.index (0 : Fin 1)) a * main_arg3.ty.shape.size a) = fun _ => 0 :=
    funext fun a => by fin_cases a <;> decide
  exact Memref.read_access_unit_zero (Elt F) main_arg3 hz (fun a => by fin_cases a <;> decide) _

end Cert.KernelIdeal.Moe

end
-- ==== Proof.Frames.lean ====
/-
The frames of the three programs: each run ends, with the arguments as they were and every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

set_option maxRecDepth 16384

noncomputable section

namespace Cert.Proof

open Idealize.ShloMosaic Idealize.SL.Sem Cert.KernelIdeal.Moe

/-- What the run of the four devices says of the four arguments. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F))
    (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨((h c).1 (0 : Fin 4)).trans (final_0 m ρ c), (h c).2, ((h c).1 (1 : Fin 4)).trans (final_1 m ρ c), ((h c).1 (2 : Fin 4)).trans (final_2 m ρ c)⟩

/-- The program over any float values: arguments kept, counters at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r h => ⟨args_kept m ρ r h.1, h.2⟩) (run_all m ρ)

/-- The program at the ideal floats. -/
theorem frame_ideal : Cert.quiescent_KernelIdeal := fun m ρ _ => frame_any (F := Ideal) m ρ

/-- The program as it is printed and its reading at the ideal floats have one body, over any float values; -/
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  obtain ⟨_ | _, h⟩ := l
  · rfl
  · exact absurd h (by omega)

/-- so they have one table of functions; -/
theorem tables_same {F : FTy → Type} [FloatOps F] : Cert.Kernel.defs (F := F) = Cert.KernelIdeal.defs (F := F) :=
  congrArg (Pipeline.defs Cert.KernelIdeal.pcfgs) bodies_same

/-- and the frame of the program as it is printed is the same run at the bit-exact floats. -/
theorem frame_kernel : Cert.quiescent_Kernel := fun m ρ _ => by
  have h := frame_any (F := Bits) m ρ
  rw [← tables_same] at h
  exact h

/-- The reference runs on one device and has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Spec.lean ====
/-
What both programs compute, in plain mathematics: a token goes through the expert its route names, if fewer than 204
earlier tokens named that expert, and through nothing otherwise.
-/
module

public import Idealize.ShloMosaic.Lib.Pointwise
public import Idealize.ShloMosaic.PureOps.Ideal

@[expose] public section

noncomputable section

namespace Cert.Proof

open Idealize.ShloMosaic

/-- The routes of all tokens, one word each. -/
abbrev Routes : Type := (⟨2, ![2048, 1]⟩ : Shape).Idx → BitVec 32

/-- One if token `j` names expert `l`, else zero; zero past the last token. -/
def hits (R : Routes) (l j : ℕ) : ℕ :=
  if h : j < 2048 then (if R (ix2 (⟨j, h⟩ : Fin 2048) (0 : Fin 1)) = BitVec.ofNat 32 l then 1 else 0) else 0

/-- How many of the first `n` tokens name expert `l`. -/
def rank (R : Routes) (l n : ℕ) : ℕ := ∑ j ∈ Finset.range n, hits R l j

/-- Token `i` names expert `l` and is within its capacity. -/
def Kept (R : Routes) (i l : ℕ) : Prop := hits R l i = 1 ∧ rank R l i < 204

instance (R : Routes) (i l : ℕ) : Decidable (Kept R i l) := inferInstanceAs (Decidable (_ ∧ _))

/-- Entry `(i, h)` of the product of the tokens with expert `e`'s weights. -/
def through (X : (⟨2, ![2048, 256]⟩ : Shape).Idx → EReal) (E : (⟨3, ![8, 256, 512]⟩ : Shape).Idx → EReal)
    (i : Fin 2048) (h : Fin 512) (e : Fin 8) : EReal := ∑ k : Fin 256, X (ix2 i k) * E (ix3 e k h)

/-- Expert `e`'s part of entry `(i, h)` of the result. -/
def part (X : (⟨2, ![2048, 256]⟩ : Shape).Idx → EReal) (R : Routes) (E : (⟨3, ![8, 256, 512]⟩ : Shape).Idx → EReal)
    (i : Fin 2048) (h : Fin 512) (e : Fin 8) : EReal := if Kept R i e then through X E i h e else 0

/-- The whole result. -/
def moe (X : (⟨2, ![2048, 256]⟩ : Shape).Idx → EReal) (R : Routes) (E : (⟨3, ![8, 256, 512]⟩ : Shape).Idx → EReal) :
    (⟨2, ![2048, 512]⟩ : Shape).Idx → EReal := fun j => ∑ e : Fin 8, part X R E (j 0) (j 1) e

theorem hits_of_lt (R : Routes) (l : ℕ) (i : Fin 2048) :
    hits R l i = if R (ix2 i (0 : Fin 1)) = BitVec.ofNat 32 l then 1 else 0 := by
  unfold hits; rw [dif_pos i.isLt]

theorem hits_le_one (R : Routes) (l j : ℕ) : hits R l j ≤ 1 := by
  unfold hits; split
  · split <;> omega
  · omega

theorem rank_le (R : Routes) (l n : ℕ) : rank R l n ≤ n := by
  have h := Finset.sum_le_card_nsmul (Finset.range n) (hits R l) 1 (fun j _ => hits_le_one R l j)
  rw [Finset.card_range] at h
  simpa [rank] using h

theorem rank_succ (R : Routes) (l n : ℕ) : rank R l (n + 1) = rank R l n + hits R l n := Finset.sum_range_succ _ _

/-- A token is kept by one expert at most. -/
theorem kept_unique (R : Routes) (i : Fin 2048) (l l' : Fin 8) (h : Kept R i l) (h' : Kept R i l') : l = l' := by
  have a := h.1; have b := h'.1
  rw [hits_of_lt] at a b
  have a' : R (ix2 i (0 : Fin 1)) = BitVec.ofNat 32 l := by by_contra hn; rw [if_neg hn] at a; exact absurd a (by decide)
  have b' : R (ix2 i (0 : Fin 1)) = BitVec.ofNat 32 l' := by by_contra hn; rw [if_neg hn] at b; exact absurd b (by decide)
  have hh := congrArg BitVec.toNat (a'.symm.trans b')
  rw [BitVec.toNat_ofNat, BitVec.toNat_ofNat, Nat.mod_eq_of_lt (by omega), Nat.mod_eq_of_lt (by omega)] at hh
  exact Fin.ext hh

end Cert.Proof

end
-- ==== Proof.Reference.lean ====
/-
The reference's result is the plain one.
-/
module

public import proofs.«01_k».proof.Proof.Spec
public import proofs.«01_k».proof.Proof.Gen.ReferenceIdeal.Run
public import Idealize.ShloMosaic.Lib.Routing.OpsOne

@[expose] public section

set_option maxRecDepth 16384

noncomputable section

namespace Cert.Proof.Reference

open Cert.ReferenceIdeal Cert.ReferenceIdeal.Gen Idealize.ShloMosaic Idealize.ShloMosaic.TcCoe

/-- Which expert each token names, as words. -/
def named (R : IVec S2048x1 32) : IVec S2048x8 32 :=
  extui 32 (cmpi .eq (broadcastInDim S2048x8 ![0, 1] bcast_S2048x1_S2048x8_0_1 R) (broadcastInDim S2048x8 ![0, 1] bcast_S1x8_S2048x8_0_1 (broadcastInDim S1x8 ![1] bcast_S8_S1x8_1 (iotaInDim S8 32 0)))) natLt_1_32

/-- The running counts down the tokens. -/
def counted (v : IVec S2048x8 32) : IVec S2048x8 32 :=
  Host.reduceWindow IntOp.addi ![2048, 1] ![1, 1] ![2047, 0] ![0, 0] v (broadcastInDim S_ ![] bcast_S_S_ (constantI S_ 32 0#32)) reduceWindows_S2048x8_S2048x8_w2048s1p2047_0_w1s1p0_0 h_S_

/-- Which token is kept by which expert. -/
def keptBits (R : IVec S2048x1 32) : IVec S2048x8 1 :=
  andi (cmpi .eq (named R) (broadcastInDim S2048x8 ![] bcast_S_S2048x8 (constantI S_ 32 1#32)))
    (cmpi .slt (subi (counted (named R)) (named R)) (broadcastInDim S2048x8 ![] bcast_S_S2048x8 (constantI S_ 32 204#32)))

/-- One expert's `where` over what the experts before it left. -/
def layer (X : FVec Ideal S2048x256 .bf16) (b : IVec S2048x1 1) (W : FVec Ideal S1x256x512 .bf16) (acc : FVec Ideal S2048x512 .f32) : FVec Ideal S2048x512 .f32 :=
  select (broadcastInDim S2048x512 ![0, 1] bcast_S2048x1_S2048x512_0_1 b)
    (Host.dotGeneral dot_S2048x256_S256x512_S2048x512_1_0_0_1_n_n none (extf .f32 X bitsLt_bf16_f32) (extf .f32 (shapeCast S256x512 W shapeCasts_S1x256x512_S256x512) bitsLt_bf16_f32)) acc

/-- The eight experts one after another. -/
def layers (X : FVec Ideal S2048x256 .bf16) (K : IVec S2048x8 1) (E : FVec Ideal S8x256x512 .bf16) : FVec Ideal S2048x512 .f32 :=
  layer X (extractStridedSlice S2048x1 ![0, 7] K slices_S2048x8_S2048x1_0_7) (extractStridedSlice S1x256x512 ![7, 0, 0] E slices_S8x256x512_S1x256x512_7_0_0) <|
  layer X (extractStridedSlice S2048x1 ![0, 6] K slices_S2048x8_S2048x1_0_6) (extractStridedSlice S1x256x512 ![6, 0, 0] E slices_S8x256x512_S1x256x512_6_0_0) <|
  layer X (extractStridedSlice S2048x1 ![0, 5] K slices_S2048x8_S2048x1_0_5) (extractStridedSlice S1x256x512 ![5, 0, 0] E slices_S8x256x512_S1x256x512_5_0_0) <|
  layer X (extractStridedSlice S2048x1 ![0, 4] K slices_S2048x8_S2048x1_0_4) (extractStridedSlice S1x256x512 ![4, 0, 0] E slices_S8x256x512_S1x256x512_4_0_0) <|
  layer X (extractStridedSlice S2048x1 ![0, 3] K slices_S2048x8_S2048x1_0_3) (extractStridedSlice S1x256x512 ![3, 0, 0] E slices_S8x256x512_S1x256x512_3_0_0) <|
  layer X (extractStridedSlice S2048x1 ![0, 2] K slices_S2048x8_S2048x1_0_2) (extractStridedSlice S1x256x512 ![2, 0, 0] E slices_S8x256x512_S1x256x512_2_0_0) <|
  layer X (extractStridedSlice S2048x1 ![0, 1] K slices_S2048x8_S2048x1_0_1) (extractStridedSlice S1x256x512 ![1, 0, 0] E slices_S8x256x512_S1x256x512_1_0_0) <|
  layer X (extractStridedSlice S2048x1 ![0, 0] K slices_S2048x8_S2048x1_0_0) (extractStridedSlice S1x256x512 ![0, 0, 0] E slices_S8x256x512_S1x256x512_0_0_0) <|
  broadcastInDim S2048x512 ![] bcast_S_S2048x512 (constant S_ .f32 0x00000000#32)

theorem result_eq (m : (ℓ : Loc nD τ sig) → Buf (Elt Ideal) ℓ) (c : Dev nD) :
    Cert.ReferenceIdeal.Value.res_main_v69 m c
      = layers (m ((c.tc : Thread nD τ).loc main_arg0)) (keptBits (m ((c.tc : Thread nD τ).loc main_arg2))) (m ((c.tc : Thread nD τ).loc main_arg3)) := rfl

theorem layer_apply (X : FVec Ideal S2048x256 .bf16) (b : IVec S2048x1 1) (W : FVec Ideal S1x256x512 .bf16) (acc : FVec Ideal S2048x512 .f32) (i : Fin 2048) (h : Fin 512) :
    layer X b W acc (ix2 i h) = if b (ix2 i (0 : Fin 1)) = 1#1 then ∑ k : Fin 256, X (ix2 i k) * W (ix3 (0 : Fin 1) k h) else acc (ix2 i h) := by
  unfold layer
  pointwise
  rfl

theorem named_apply (R : IVec S2048x1 32) (i : Fin 2048) (l : Fin 8) : named R (ix2 i l) = BitVec.ofNat 32 (hits R l i) := by
  rw [hits_of_lt]
  unfold named
  pointwise
  unfold IntOp.cmpi
  by_cases hr : R (ix2 i 0) = BitVec.ofNat 32 l
  · rw [if_pos hr, hr]; simp
  · rw [if_neg hr]
    simp only [beq_eq_false_iff_ne.2 hr]
    rfl

theorem counted_apply (R : IVec S2048x1 32) (i : Fin 2048) (l : Fin 8) : counted (named R) (ix2 i l) = BitVec.ofNat 32 (rank R l (i + 1)) := by
  refine (Routing.cumsum_rows (R := 2048) (Rm1 := 2047) (C := 8) rfl (named R) (fun i l => hits R l i) (fun i l => named_apply R i l) _ rfl _ _ i l).trans ?_
  rfl

theorem slt_small (a : ℕ) (ha : a < 4096) : (BitVec.ofNat 32 a).slt 204#32 = decide (a < 204) := by
  rw [BitVec.slt_eq_decide, show (204#32).toInt = 204 from by decide, BitVec.toInt_eq_toNat_of_lt (by rw [BitVec.toNat_ofNat]; omega), BitVec.toNat_ofNat]
  exact decide_eq_decide.2 (by omega)

theorem keptBits_apply (R : IVec S2048x1 32) (i : Fin 2048) (l : Fin 8) : keptBits R (ix2 i l) = 1#1 ↔ Kept R i l := by
  unfold keptBits
  pointwise
  rw [counted_apply, named_apply, rank_succ]
  have hs : IntOp.subi (BitVec.ofNat 32 (rank R l i + hits R l i)) (BitVec.ofNat 32 (hits R l i)) = BitVec.ofNat 32 (rank R l i) := by
    unfold IntOp.subi
    rw [BitVec.ofNat_add, BitVec.add_sub_cancel]
  have hk := rank_le R l i
  have hh := hits_le_one R l i
  rw [hs]
  unfold IntOp.cmpi IntOp.andi Kept
  dsimp only
  rw [slt_small _ (by omega)]
  have h1 : hits R l i = 0 ∨ hits R l i = 1 := by omega
  rcases h1 with h1 | h1 <;> rw [h1] <;> by_cases h2 : rank R l i < 204 <;> simp [h2]

/-- Of eight parts of which one at most stands, the last that stands is the sum of them all. -/
theorem chain_eq_sum (p : Fin 8 → Prop) [DecidablePred p] (f : Fin 8 → EReal) (hp : ∀ a b, p a → p b → a = b) :
    (if p 7 then f 7 else if p 6 then f 6 else if p 5 then f 5 else if p 4 then f 4 else if p 3 then f 3 else if p 2 then f 2 else if p 1 then f 1 else if p 0 then f 0 else 0)
      = ∑ e : Fin 8, if p e then f e else 0 := by
  by_cases h : ∃ a, p a
  · obtain ⟨a, ha⟩ := h
    have hq : ∀ b, p b ↔ b = a := fun b => ⟨fun hb => hp b a hb ha, fun hb => hb ▸ ha⟩
    simp only [hq]
    rw [Finset.sum_ite_eq']
    fin_cases a <;> simp
  · have hq : ∀ b, ¬p b := fun b hb => h ⟨b, hb⟩
    simp [hq]

theorem layers_apply (X : FVec Ideal S2048x256 .bf16) (K : IVec S2048x8 1) (E : FVec Ideal S8x256x512 .bf16) (i : Fin 2048) (h : Fin 512)
    (hK : ∀ a b : Fin 8, K (ix2 i a) = 1#1 → K (ix2 i b) = 1#1 → a = b) :
    layers X K E (ix2 i h) = ∑ e : Fin 8, if K (ix2 i e) = 1#1 then through X E i h e else 0 := by
  unfold layers
  simp only [layer_apply]
  pointwise
  exact chain_eq_sum (fun e => K (ix2 i e) = 1#1) (through X E i h) hK

/-- The reference computes the plain result of its arguments. -/
theorem result_moe (m : (ℓ : Loc nD τ sig) → Buf (Elt Ideal) ℓ) (c : Dev nD) :
    Cert.ReferenceIdeal.Value.res_main_v69 m c
      = moe (m ((c.tc : Thread nD τ).loc main_arg0)) (m ((c.tc : Thread nD τ).loc main_arg2)) (m ((c.tc : Thread nD τ).loc main_arg3)) := by
  rw [result_eq]
  funext j
  rw [eq_ix2 j]
  refine (layers_apply _ _ _ (j 0) (j 1) fun a b ha hb => ?_).trans ?_
  · exact kept_unique _ (j 0) a b ((keptBits_apply _ _ _).1 ha) ((keptBits_apply _ _ _).1 hb)
  · exact Finset.sum_congr rfl fun e _ => if_congr (keptBits_apply _ _ _) rfl rfl

end Cert.Proof.Reference

end
-- ==== Proof.Value.lean ====
/-
What a device's body computes, entry by entry, over the extended reals.
-/
module

public import proofs.«01_k».proof.Proof.Launch
public import proofs.«01_k».proof.Proof.Spec

@[expose] public section

set_option maxRecDepth 16384

noncomputable section

namespace Cert.KernelIdeal.Moe

open Cert.KernelIdeal Cert.KernelIdeal.Gen Cert.Proof
open Idealize.ShloMosaic
open Idealize.ShloMosaic.TcCoe

/-- A bit widened and read as a float is one or zero. -/
theorem bit_float (b : BitVec 1) : (FloatOps.sitofp .f32 (BitVec.setWidth 32 b) : Ideal .f32) = if b = 1#1 then (1 : EReal) else 0 := by
  have h : b = 0#1 ∨ b = 1#1 := by revert b; decide
  rcases h with rfl | rfl
  · show (((BitVec.setWidth 32 0#1).toInt : ℝ) : EReal) = _
    simp
  · show (((BitVec.setWidth 32 1#1).toInt : ℝ) : EReal) = _
    simp

theorem bit_eq (x y : BitVec 32) : (FloatOps.sitofp .f32 (BitVec.setWidth 32 (IntOp.cmpi .eq x y)) : Ideal .f32) = if x = y then (1 : EReal) else 0 := by
  rw [bit_float]
  refine if_congr ?_ rfl rfl
  unfold IntOp.cmpi
  by_cases h : x = y
  · subst h; simp
  · simp only [beq_eq_false_iff_ne.2 h, h, iff_false]; decide

/-- Small words are ordered as the naturals they hold. -/
theorem bit_lt (a b : ℕ) (ha : a < 4096) (hb : b < 4096) :
    (FloatOps.sitofp .f32 (BitVec.setWidth 32 (IntOp.cmpi .slt (BitVec.ofNat 32 a) (BitVec.ofNat 32 b))) : Ideal .f32) = if a < b then (1 : EReal) else 0 := by
  rw [bit_float]
  refine if_congr ?_ rfl rfl
  unfold IntOp.cmpi
  rw [BitVec.slt_eq_decide, BitVec.toInt_eq_toNat_of_lt (by rw [BitVec.toNat_ofNat]; omega), BitVec.toNat_ofNat,
    BitVec.toInt_eq_toNat_of_lt (by rw [BitVec.toNat_ofNat]; omega), BitVec.toNat_ofNat]
  rw [show decide (((a % 2 ^ 32 : ℕ) : ℤ) < ((b % 2 ^ 32 : ℕ) : ℤ)) = decide (a < b) from decide_eq_decide.2 (by omega)]
  by_cases h : a < b <;> simp [h]

/-- The column of `keep` that an expert's word picks out. -/
def gate (keep : FVec Ideal S512x8 .f32) (w : BitVec 32) (i : Fin 512) : EReal :=
  ∑ l : Fin 8, keep (ix2 i l) * (FloatOps.sitofp .f32 (BitVec.setWidth 32 (IntOp.cmpi .eq (BitVec.ofNat 32 l) w)) : Ideal .f32)

theorem gate_eq (keep : FVec Ideal S512x8 .f32) (i : Fin 512) (e : Fin 8) : gate keep (BitVec.ofNat 32 e) i = keep (ix2 i e) := by
  unfold gate
  have hw : ∀ l e : Fin 8, (BitVec.ofNat 32 l = BitVec.ofNat 32 e ↔ l = e) := by decide
  simp only [bit_eq, hw, mul_ite, mul_one, mul_zero, Finset.sum_ite_eq', Finset.mem_univ, if_true]

/-- A token's row times one expert's weights, the row gated. -/
def gated (keep : FVec Ideal S512x8 .f32) (x : FVec Ideal S512x256 .bf16) (w : BitVec 32) (W : FVec Ideal S256x512 .bf16) (i : Fin 512) (h : Fin 512) : EReal :=
  ∑ k : Fin 256, (x (ix2 i k) * gate keep w i) * W (ix2 k h)

/-- One expert's weights, read out of a batch of one. -/
def flat (W : FVec Ideal S1x256x512 .bf16) : FVec Ideal S256x512 .bf16 := fun j => W (ix3 (0 : Fin 1) (j 0 : Fin 256) (j 1 : Fin 512))

section payloads

variable (keep : FVec Ideal S512x8 .f32) (x : FVec Ideal S512x256 .bf16) (acc : FVec Ideal S512x512 .f32) (i h : Fin 512)

theorem pay8_apply (v2 v5 : BitVec 32) (W0 W1 : FVec Ideal S1x256x512 .bf16) (W2 : FVec Ideal S256x512 .bf16) :
    k0_pay8 v2 v5 lanes keep x (k0_pay6 (F := Ideal)) (k0_pay7 v2 lanes keep x) W0 W1 W2 (ix2 i h)
      = gated keep x (Scalar.muli v2 2#32) (flat W0) i h
        + gated keep x (Scalar.addi (Scalar.muli v2 2#32) 1#32) (flat W1) i h
        + gated keep x (Scalar.muli v5 2#32) W2 i h := by
  unfold k0_pay8 k0_pay7 k0_pay6 lanes gated gate flat
  pointwise

theorem pay9_apply (v5 w : BitVec 32) (W0 W1 : FVec Ideal S256x512 .bf16) :
    k0_pay9 v5 lanes keep x acc w W0 W1 (ix2 i h)
      = acc (ix2 i h) + gated keep x w W0 i h + gated keep x (Scalar.addi (Scalar.muli v5 2#32) 1#32) W1 i h := by
  unfold k0_pay9 lanes gated gate
  pointwise

theorem pay10_apply (v7 : BitVec 32) (W0 : FVec Ideal S256x512 .bf16) :
    k0_pay10 v7 lanes keep x acc W0 (ix2 i h) = acc (ix2 i h) + gated keep x (Scalar.muli v7 2#32) W0 i h := by
  unfold k0_pay10 lanes gated gate
  pointwise

theorem pay12_apply (v9 : BitVec 32) (W0 W1 : FVec Ideal S256x512 .bf16) :
    k0_pay12 v9 lanes keep x acc W0 (k0_pay11 v9 lanes keep) W1 (ix2 i h)
      = acc (ix2 i h) + gated keep x (Scalar.muli v9 2#32) W0 i h + gated keep x (Scalar.addi (Scalar.muli v9 2#32) 1#32) W1 i h := by
  unfold k0_pay12 k0_pay11 lanes gated gate
  pointwise

end payloads

theorem word_my : ∀ c : Dev nD, Scalar.muli (w2 c) 2#32 = BitVec.ofNat 32 (2 * c.val) := by decide
theorem word_left : ∀ c : Dev nD, Scalar.muli (w5 c) 2#32 = BitVec.ofNat 32 (2 * (lft c).val) := by decide
theorem word_right : ∀ c : Dev nD, Scalar.muli (w7 c) 2#32 = BitVec.ofNat 32 (2 * (rgt c).val) := by decide
theorem word_opp : ∀ c : Dev nD, Scalar.muli (w9 c) 2#32 = BitVec.ofNat 32 (2 * (opp c).val) := by decide
theorem word_self : ∀ c : Dev nD, w2 c = BitVec.ofNat 32 c.val := by decide

/-! ## The counts -/

/-- The whole array's row that is row `i` of device `c`'s block. -/
def row (c : Dev nD) (i : Fin 512) : Fin 2048 := ⟨c.val * 512 + i.val, by have := c.isLt; have : nD = 4 := rfl; omega⟩

/-- The expert that is device `d`'s expert `b`. -/
def slot (d : Dev nD) (b : Fin 2) : Fin 8 := ⟨2 * d.val + b.val, by have := d.isLt; have : nD = 4 := rfl; omega⟩

theorem sum_below {M : Type} [AddCommMonoid M] (n i : ℕ) (hi : i ≤ n) (g : ℕ → M) :
    (∑ x : Fin n, if x.val < i then g x.val else 0) = ∑ x ∈ Finset.range i, g x := by
  rw [Fin.sum_univ_eq_sum_range (fun x => if x < i then g x else 0) n, ← Finset.sum_filter]
  refine Finset.sum_congr ?_ fun _ _ => rfl
  ext x; rw [Finset.mem_filter, Finset.mem_range, Finset.mem_range]; omega

/-- The tokens before row `i` of block `c`: the blocks before it, and the rows before it in its own. -/
theorem rank_split (R : Routes) (l : ℕ) (c : Dev nD) (i : Fin 512) :
    (∑ x ∈ Finset.range i.val, hits R l (c.val * 512 + x))
      + (∑ d ∈ Finset.range c.val, ∑ x ∈ Finset.range 512, hits R l (d * 512 + x)) = rank R l (row c i) := by
  unfold rank row
  dsimp only
  rw [Finset.sum_range_add, add_comm]
  refine congrArg (· + _) ?_
  generalize c.val = n
  induction n with
  | zero => simp
  | succ n ih => rw [Finset.sum_range_succ, ih, Nat.succ_mul, Finset.sum_range_add]

section routes

variable (m : (ℓ : Loc nD τ sig) → Buf (Elt Ideal) ℓ) (R : Routes)

/-- Each device's routes are its rows of the whole. -/
def RoutesAre : Prop := ∀ (c : Dev nD) (i : Fin 512), rstg m c (ix2 i (0 : Fin 1)) = R (ix2 (row c i) (0 : Fin 1))

variable {m R}

theorem onehot_apply (hR : RoutesAre m R) (c : Dev nD) (i : Fin 512) (l : Fin 8) :
    (k0_pay1 (rstg m c) : FVec Ideal S512x8 .f32) (ix2 i l) = ((hits R l (c.val * 512 + i.val) : ℕ) : EReal) := by
  rw [show c.val * 512 + i.val = (row c i : ℕ) from rfl, hits_of_lt, ← hR c i]
  unfold k0_pay1
  pointwise
  rw [bit_eq]
  split <;> simp

theorem hist_apply (hR : RoutesAre m R) (d : Dev nD) (l : Fin 8) :
    histAll m (ix2 d l) = ((∑ x ∈ Finset.range 512, hits R l (d.val * 512 + x) : ℕ) : EReal) := by
  show k0_pay2 (rstg m d) (ix2 (0 : Fin 1) l) = _
  unfold k0_pay2
  pointwise
  simp only [onehot_apply hR]
  rw [Nat.cast_sum, Fin.sum_univ_eq_sum_range (fun x => ((hits R l (d.val * 512 + x) : ℕ) : EReal)) 512]

theorem excl_apply (hR : RoutesAre m R) (c : Dev nD) (i : Fin 512) (l : Fin 8) :
    k0_pay3 (k0_pay1 (rstg m c) : FVec Ideal S512x8 .f32) (ix2 i l) = ((∑ x ∈ Finset.range i.val, hits R l (c.val * 512 + x) : ℕ) : EReal) := by
  unfold k0_pay3
  pointwise
  have hb : ∀ x : Fin 512, (FloatOps.sitofp .f32 (BitVec.setWidth 32 (IntOp.cmpi .slt (BitVec.ofNat 32 x.val) (BitVec.ofNat 32 i.val))) : Ideal .f32)
      = if x.val < i.val then (1 : EReal) else 0 := fun x => bit_lt _ _ (by omega) (by omega)
  simp only [onehot_apply hR, hb, ite_mul, one_mul, zero_mul]
  rw [Nat.cast_sum, sum_below 512 i.val (by omega) (fun x => ((hits R l (c.val * 512 + x) : ℕ) : EReal))]

theorem capacity : (Ideal.ofBits .f32 0x434C0000#32 : EReal) = ((204 : ℕ) : EReal) := by
  rw [← EReal.coe_natCast]
  simp [Ideal.ofBits, Ideal.ieee, -EReal.coe_mul]; norm_num

theorem keep_apply (hR : RoutesAre m R) (c : Dev nD) (i : Fin 512) (l : Fin 8) :
    keepM m c (ix2 i l) = if Kept R (row c i) l then (1 : EReal) else 0 := by
  unfold keepM k0_pay4
  pointwise
  have hb : ∀ x : Fin 4, (FloatOps.sitofp .f32 (BitVec.setWidth 32 (IntOp.cmpi .slt (BitVec.ofNat 32 x.val) (w2 c))) : Ideal .f32)
      = if x.val < c.val then (1 : EReal) else 0 := fun x => by
    have := c.isLt; have : nD = 4 := rfl
    rw [word_self]; exact bit_lt _ _ (by omega) (by omega)
  have hh : ∀ x : Fin 4, histAll m (ix2 x l) = _ := fun x => hist_apply hR x l
  simp only [onehot_apply hR, excl_apply hR, hh, hb, mul_ite, mul_one, mul_zero]
  rw [sum_below 4 c.val (by have := c.isLt; have : nD = 4 := rfl; omega) (fun d => ((∑ x ∈ Finset.range 512, hits R l (d * 512 + x) : ℕ) : EReal)),
    ← Nat.cast_sum, ← Nat.cast_add, rank_split, capacity, bit_float]
  have hlt : ((rank R l (row c i) : ℕ) : EReal) < ((204 : ℕ) : EReal) ↔ rank R l (row c i) < 204 := Nat.cast_lt
  have hbit : ∀ p : Bool, (BitVec.ofBool p = 1#1) = (p = true) := by decide
  have h1 := hits_le_one R l (c.val * 512 + i.val)
  simp only [hbit, decide_eq_true_eq, hlt, Kept]
  rw [show (row c i : ℕ) = c.val * 512 + i.val from rfl]
  rcases Nat.le_one_iff_eq_zero_or_eq_one.1 h1 with h | h <;> simp [h]

variable {X : (⟨2, ![2048, 256]⟩ : Shape).Idx → EReal} {E : (⟨3, ![8, 256, 512]⟩ : Shape).Idx → EReal}

/-- Each device's tokens are its rows of the whole. -/
def TokensAre (m : (ℓ : Loc nD τ sig) → Buf (Elt Ideal) ℓ) (X : (⟨2, ![2048, 256]⟩ : Shape).Idx → EReal) : Prop :=
  ∀ (c : Dev nD) (i : Fin 512) (k : Fin 256), xstg m c (ix2 i k) = X (ix2 (row c i) k)

/-- Each device's weights are its two experts of the whole. -/
def ExpertsAre (m : (ℓ : Loc nD τ sig) → Buf (Elt Ideal) ℓ) (E : (⟨3, ![8, 256, 512]⟩ : Shape).Idx → EReal) : Prop :=
  ∀ (d : Dev nD) (b : Fin 2) (k : Fin 256) (h : Fin 512), estg m d (ix3 b k h) = E (ix3 (slot d b) k h)

/-- A gated product with one expert's weights is that expert's part of the result. -/
theorem gated_part (hX : TokensAre m X) (hR : RoutesAre m R) (c : Dev nD) (i h : Fin 512) (e : Fin 8) (w : BitVec 32) (hw : w = BitVec.ofNat 32 e)
    (W : FVec Ideal S256x512 .bf16) (hW : ∀ k, W (ix2 k h) = E (ix3 e k h)) :
    gated (keepM m c) (xb m c) w W i h = part X R E (row c i) h e := by
  subst hw
  have hx : ∀ k, xb m c (ix2 i k) = X (ix2 (row c i) k) := fun k => by
    rw [← hX c i k]
    unfold xb k0_pay5
    pointwise
  unfold gated part through
  simp only [hx, hW, gate_eq, keep_apply hR]
  split <;> simp

theorem word_base (d : Dev nD) : BitVec.ofNat 32 (2 * d.val) = BitVec.ofNat 32 (slot d 0).val := rfl
theorem word_next : ∀ d : Dev nD, Scalar.addi (BitVec.ofNat 32 (2 * d.val)) 1#32 = BitVec.ofNat 32 (slot d 1).val := by decide

/-- The four devices' experts, in the order device `c` meets them, are all eight. -/
theorem all_slots (f : Fin 8 → EReal) (c : Dev nD) :
    f (slot c 0) + f (slot c 1) + f (slot (lft c) 0) + f (slot (rgt c) 1) + f (slot (lft c) 1) + f (slot (rgt c) 0)
      + f (slot (opp c) 0) + f (slot (opp c) 1) = ∑ e : Fin 8, f e := by
  rw [Fin.sum_univ_eight]
  have hc : c = (0 : Fin 4) ∨ c = (1 : Fin 4) ∨ c = (2 : Fin 4) ∨ c = (3 : Fin 4) := by revert c; decide
  rcases hc with rfl | rfl | rfl | rfl
  · show f 0 + f 1 + f 6 + f 3 + f 7 + f 2 + f 4 + f 5 = _
    abel
  · show f 2 + f 3 + f 0 + f 5 + f 1 + f 4 + f 6 + f 7 = _
    abel
  · show f 4 + f 5 + f 2 + f 7 + f 3 + f 6 + f 0 + f 1 = _
    abel
  · show f 6 + f 7 + f 4 + f 1 + f 5 + f 0 + f 2 + f 3 = _
    abel

/-- A device's output is its rows of the whole result. -/
theorem out_apply (hX : TokensAre m X) (hR : RoutesAre m R) (hE : ExpertsAre m E) (c : Dev nD) (i h : Fin 512) :
    outAll m c (ix2 i h) = moe X R E (ix2 (row c i) h) := by
  have hp : ∀ (d : Dev nD) (b : Fin 2) (w : BitVec 32), w = BitVec.ofNat 32 (slot d b).val →
      gated (keepM m c) (xb m c) w (expert m d b) i h = part X R E (row c i) h (slot d b) :=
    fun d b w hw => gated_part hX hR c i h (slot d b) w hw _ fun k => hE d b k h
  have h1 : ∀ (b : Fin 2) (w : BitVec 32), w = BitVec.ofNat 32 (slot c b).val →
      gated (keepM m c) (xb m c) w (flat (expert1 m c b)) i h = part X R E (row c i) h (slot c b) :=
    fun b w hw => gated_part hX hR c i h (slot c b) w hw _ fun k => hE c b k h
  unfold outAll
  rw [pay12_apply]
  unfold acc6
  rw [pay10_apply]
  unfold acc5
  rw [pay9_apply]
  unfold acc3
  rw [pay8_apply, word_my, word_left, word_right, word_opp]
  simp only [word_next]
  simp only [word_base]
  rw [h1 0 _ rfl, h1 1 _ rfl, hp (lft c) 0 _ rfl, hp (rgt c) 1 _ rfl, hp (lft c) 1 _ rfl, hp (rgt c) 0 _ rfl,
    hp (opp c) 0 _ rfl, hp (opp c) 1 _ rfl]
  exact all_slots (fun e => part X R E (row c i) h e) c

end routes

end Cert.KernelIdeal.Moe

end
-- ==== Proof.Agree.lean ====
/-
The two programs agree over the extended reals: each device ends with its rows of the reference's result.
-/
module

public import proofs.«01_k».proof.Proof.Frames
public import proofs.«01_k».proof.Proof.Reference
public import proofs.«01_k».proof.Proof.Value

@[expose] public section

set_option maxRecDepth 16384

noncomputable section

namespace Cert.Proof

open Idealize.ShloMosaic Idealize.SL.Sem Cert.KernelIdeal.Moe

/-- Where an index of a block of rows, or of a batch of experts, lies in the whole. -/
theorem idx_tokens (h : Layout.Tiles ⟨2, ![512, 256]⟩ ⟨2, ![2048, 256]⟩ 0 4) (c : Fin 4) (i : Fin 512) (k : Fin 256) :
    h.idx c (ix2 i k) = ix2 (row c i) k := by
  funext b; fin_cases b <;> rfl

theorem idx_routes (h : Layout.Tiles ⟨2, ![512, 1]⟩ ⟨2, ![2048, 1]⟩ 0 4) (c : Fin 4) (i : Fin 512) :
    h.idx c (ix2 i (0 : Fin 1)) = ix2 (row c i) (0 : Fin 1) := by
  funext b; fin_cases b <;> rfl

theorem idx_experts (h : Layout.Tiles ⟨3, ![2, 256, 512]⟩ ⟨3, ![8, 256, 512]⟩ 0 4) (d : Fin 4) (b : Fin 2) (k : Fin 256) (l : Fin 512) :
    h.idx d (ix3 b k l) = ix3 (slot d b) k l := by
  funext a
  fin_cases a
  · exact Fin.ext (by show d.val * 2 + b.val = 2 * d.val + b.val; omega)
  · rfl
  · rfl

theorem idx_result (h : Layout.Tiles ⟨2, ![512, 512]⟩ ⟨2, ![2048, 512]⟩ 0 4) (c : Fin 4) (i : Fin 512) (l : Fin 512) :
    h.idx c (ix2 i l) = ix2 (row c i) l := by
  funext b; fin_cases b <;> rfl

/-- A device whose arguments are its blocks of the whole ends with its block of the whole result. -/
theorem out_block (m : (ℓ : Loc Cert.KernelIdeal.nD Cert.KernelIdeal.τ Cert.KernelIdeal.sig) → Buf (Elt Ideal) ℓ)
    (X : (⟨2, ![2048, 256]⟩ : Shape).Idx → EReal) (R : Routes) (E : (⟨3, ![8, 256, 512]⟩ : Shape).Idx → EReal)
    (hX : ∀ c : Dev Cert.KernelIdeal.nD, m ((c.tc : Thread Cert.KernelIdeal.nD Cert.KernelIdeal.τ).loc Cert.KernelIdeal.main_arg0) = Layout.block ⟨2, ![512, 256]⟩ ⟨2, ![2048, 256]⟩ 0 4 c X)
    (hR : ∀ c : Dev Cert.KernelIdeal.nD, m ((c.tc : Thread Cert.KernelIdeal.nD Cert.KernelIdeal.τ).loc Cert.KernelIdeal.main_arg2) = Layout.block ⟨2, ![512, 1]⟩ ⟨2, ![2048, 1]⟩ 0 4 c R)
    (hE : ∀ c : Dev Cert.KernelIdeal.nD, m ((c.tc : Thread Cert.KernelIdeal.nD Cert.KernelIdeal.τ).loc Cert.KernelIdeal.main_arg3) = Layout.block ⟨3, ![2, 256, 512]⟩ ⟨3, ![8, 256, 512]⟩ 0 4 c E)
    (c : Dev Cert.KernelIdeal.nD) : outAll m c = Layout.block ⟨2, ![512, 512]⟩ ⟨2, ![2048, 512]⟩ 0 4 c (moe X R E) := by
  have tX : TokensAre m X := fun d i k => ((congrFun ((xstg_eq m d).trans (hX d)) (ix2 i k)).trans (congrArg X (idx_tokens (by decide) d i k)))
  have tR : RoutesAre m R := fun d i => ((congrFun ((rstg_eq m d).trans (hR d)) (ix2 i (0 : Fin 1))).trans (congrArg R (idx_routes (by decide) d i)))
  have tE : ExpertsAre m E := fun d b k l => ((congrFun ((estg_eq m d).trans (hE d)) (ix3 b k l)).trans (congrArg E (idx_experts (by decide) d b k l)))
  funext j
  obtain ⟨i, l, rfl⟩ : ∃ (i : Fin 512) (l : Fin 512), j = ix2 i l := ⟨j 0, j 1, (eq_ix2 j)⟩
  exact (out_apply tX tR tE c i l).trans (congrArg (moe X R E) (idx_result (by decide) c i l).symm)

/-- The value claim: the whole result is `moe` of the whole arguments. -/
theorem agree : Cert.algebraic_KernelIdeal_ReferenceIdeal := fun m g m' g' _ hag =>
  ⟨moe (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun r h c => ⟨(((h.1 c).1 (3 : Fin 4)).trans (final_3 m g c)).trans
        (out_block m _ _ _ (fun d => (hag d).1) (fun d => (hag d).2.2.1) (fun d => (hag d).2.2.2) c), args_kept m g r h.1 c⟩)
      (run_all (F := Ideal) m g),
    (θ_run Cert.ReferenceIdeal.defs _ _).mono
      (fun r h => ⟨((h 0).1).trans (Reference.result_moe m' 0), (h 0).2⟩) (Cert.ReferenceIdeal.Value.run (F := Ideal) m' g')⟩

end Cert.Proof

end
-- ==== Proof.lean ====
/-
The certificate: the three programs' frames, that the ideal kernel is the printed one, and that the ideal kernel computes
what the reference does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  frame_kernel, frame_ideal, frame_reference, trivial, agree⟩

end Cert.Proof

end
